-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "seventh" .f32 0x3E124925#32 ((1 / 7 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x8x64 : Shape := ⟨3, ![32768, 8, 64]⟩
abbrev S32768x8x8 : Shape := ⟨3, ![32768, 8, 8]⟩
abbrev S32x64 : Shape := ⟨2, ![32, 64]⟩
abbrev S32 : Shape := ⟨1, ![32]⟩
abbrev S1 : Shape := ⟨1, ![1]⟩
abbrev S1x32x32 : Shape := ⟨3, ![1, 32, 32]⟩
abbrev S64x64 : Shape := ⟨2, ![64, 64]⟩
abbrev S64 : Shape := ⟨1, ![64]⟩
abbrev S1x64 : Shape := ⟨2, ![1, 64]⟩
abbrev S_ : Shape := ⟨0, ![]⟩
abbrev S32x32 : Shape := ⟨2, ![32, 32]⟩
abbrev S2 : Shape := ⟨1, ![2]⟩
abbrev S4 : Shape := ⟨1, ![4]⟩
abbrev S1x4 : Shape := ⟨2, ![1, 4]⟩
abbrev S32768x4 : Shape := ⟨2, ![32768, 4]⟩
abbrev S512x8x64 : Shape := ⟨3, ![512, 8, 64]⟩
abbrev S512x8x8 : Shape := ⟨3, ![512, 8, 8]⟩
abbrev S1x8x64 : Shape := ⟨3, ![1, 8, 64]⟩
abbrev S1x8x8 : Shape := ⟨3, ![1, 8, 8]⟩
abbrev S512x4 : Shape := ⟨2, ![512, 4]⟩
abbrev S8x128 : Shape := ⟨2, ![8, 128]⟩
abbrev S128x128 : Shape := ⟨2, ![128, 128]⟩
abbrev S48x128 : Shape := ⟨2, ![48, 128]⟩
abbrev S64x4 : Shape := ⟨2, ![64, 4]⟩
abbrev S4096x64 : Shape := ⟨2, ![4096, 64]⟩
abbrev S4096x8 : Shape := ⟨2, ![4096, 8]⟩
abbrev S4096x128 : Shape := ⟨2, ![4096, 128]⟩
abbrev S128x64 : Shape := ⟨2, ![128, 64]⟩
abbrev S48x64 : Shape := ⟨2, ![48, 64]⟩
abbrev S16x64 : Shape := ⟨2, ![16, 64]⟩
abbrev S512x64 : Shape := ⟨2, ![512, 64]⟩
abbrev S8x64 : Shape := ⟨2, ![8, 64]⟩
abbrev S8x8 : Shape := ⟨2, ![8, 8]⟩
abbrev S2x8 : Shape := ⟨2, ![2, 8]⟩
abbrev S2x64 : Shape := ⟨2, ![2, 64]⟩
abbrev S511x64 : Shape := ⟨2, ![511, 64]⟩
abbrev S32768x1 : Shape := ⟨2, ![32768, 1]⟩
abbrev S65536x1 : Shape := ⟨2, ![65536, 1]⟩

abbrev nBuf : Space → Nat
  | .hbm => 53
  | .vmem => 15
  | .smem => 0
  | _ => 0

abbrev bufTy : (tb : Table) → Fin (tcTables nBuf tb) → BufTy
  | .hbm, ⟨0, _⟩ => ⟨S32768x8x64, .f32⟩
  | .hbm, ⟨1, _⟩ => ⟨S32768x8x8, .f32⟩
  | .hbm, ⟨2, _⟩ => ⟨S32x64, .f32⟩
  | .hbm, ⟨3, _⟩ => ⟨S32, .f32⟩
  | .hbm, ⟨4, _⟩ => ⟨S1, .f32⟩
  | .hbm, ⟨5, _⟩ => ⟨S32x64, .f32⟩
  | .hbm, ⟨6, _⟩ => ⟨S32, .f32⟩
  | .hbm, ⟨7, _⟩ => ⟨S1, .f32⟩
  | .hbm, ⟨8, _⟩ => ⟨S1x32x32, .f32⟩
  | .hbm, ⟨9, _⟩ => ⟨S1, .f32⟩
  | .hbm, ⟨10, _⟩ => ⟨S1x32x32, .f32⟩
  | .hbm, ⟨11, _⟩ => ⟨S1, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S1x64, .f32⟩
  | .hbm, ⟨16, _⟩ => ⟨S32, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S_, .f32⟩
  | .hbm, ⟨21, _⟩ => ⟨S64x64, .f32⟩
  | .hbm, ⟨22, _⟩ => ⟨S32x32, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S64x64, .f32⟩
  | .hbm, ⟨29, _⟩ => ⟨S32x32, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S64x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S4, .f32⟩
  | .hbm, ⟨45, _⟩ => ⟨S1x4, .f32⟩
  | .hbm, ⟨46, _⟩ => ⟨S32768x4, .f32⟩
  | .hbm, ⟨47, _⟩ => ⟨S32768x1, .f32⟩
  | .hbm, ⟨48, _⟩ => ⟨S32768x1, .f32⟩
  | .hbm, ⟨49, _⟩ => ⟨S65536x1, .f32⟩
  | .hbm, ⟨50, _⟩ => ⟨S32768x1, .f32⟩
  | .hbm, ⟨51, _⟩ => ⟨S32768x1, .f32⟩
  | .hbm, ⟨52, _⟩ => ⟨S65536x1, .f32⟩
  | .local _ .vmem, ⟨0, _⟩ => ⟨S512x8x64, .f32⟩
  | .local _ .vmem, ⟨1, _⟩ => ⟨S512x8x64, .f32⟩
  | .local _ .vmem, ⟨2, _⟩ => ⟨S512x8x8, .f32⟩
  | .local _ .vmem, ⟨3, _⟩ => ⟨S512x8x8, .f32⟩
  | .local _ .vmem, ⟨4, _⟩ => ⟨S1x8x64, .f32⟩
  | .local _ .vmem, ⟨5, _⟩ => ⟨S1x8x64, .f32⟩
  | .local _ .vmem, ⟨6, _⟩ => ⟨S1x8x8, .f32⟩
  | .local _ .vmem, ⟨7, _⟩ => ⟨S1x8x8, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S64x64, .f32⟩
  | .local _ .vmem, ⟨12, _⟩ => ⟨S1x4, .f32⟩
  | .local _ .vmem, ⟨13, _⟩ => ⟨S512x4, .f32⟩
  | .local _ .vmem, ⟨14, _⟩ => ⟨S512x4, .f32⟩
  | _, _ => ⟨S32768x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 1 := Scalar.cmpi .eq arg0 c0_i32
  let c512_i32 : BitVec 32 := 512#32
  let v1 : BitVec 32 := Scalar.muli arg0 c512_i32
  let c1_i32 : BitVec 32 := 1#32
  let v2 : BitVec 32 := Scalar.subi v1 c1_i32
  let c32766_i32 : BitVec 32 := 32766#32
  let v3 : BitVec 32 := Scalar.select v0 c32766_i32 v2
  let c0_i32_0 : BitVec 32 := 0#32
  let c0_i32_1 : BitVec 32 := 0#32
  let c0_i32_2 : BitVec 32 := 0#32
  ![v3.toNat, c0_i32_0.toNat, c0_i32_1.toNat]

def cc0_transform_3 (i : grid0.Coords) : Fin 3 → Nat :=
  let arg0 : BitVec 32 := BitVec.ofNat 32 (i 0).val
  let c0_i32 : BitVec 32 := 0#32
  let v0 : BitVec 1 := Scalar.cmpi .eq arg0 c0_i32
  let c512_i32 : BitVec 32 := 512#32
  let v1 : BitVec 32 := Scalar.muli arg0 c512_i32
  let c1_i32 : BitVec 32 := 1#32
  let v2 : BitVec 32 := Scalar.subi v1 c1_i32
  let c32766_i32 : BitVec 32 := 32766#32
  let v3 : BitVec 32 := Scalar.select v0 c32766_i32 v2
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "seventh" => some ((1 / 7 : ℝ) : EReal)
  | _ => none
-- ==== ReferenceIdeal.lean ====
abbrev S32768x8x64 : Shape := ⟨3, ![32768, 8, 64]⟩
abbrev S32768x8x8 : Shape := ⟨3, ![32768, 8, 8]⟩
abbrev S32x64 : Shape := ⟨2, ![32, 64]⟩
abbrev S32 : Shape := ⟨1, ![32]⟩
abbrev S1 : Shape := ⟨1, ![1]⟩
abbrev S1x32x32 : Shape := ⟨3, ![1, 32, 32]⟩
abbrev S32768x8x32 : Shape := ⟨3, ![32768, 8, 32]⟩
abbrev S1x1x32 : Shape := ⟨3, ![1, 1, 32]⟩
abbrev S_ : Shape := ⟨0, ![]⟩
abbrev S32768x7x32 : Shape := ⟨3, ![32768, 7, 32]⟩
abbrev S32768x32 : Shape := ⟨2, ![32768, 32]⟩
abbrev S32768x1x32 : Shape := ⟨3, ![32768, 1, 32]⟩
abbrev S1x32x32768 : Shape := ⟨3, ![1, 32, 32768]⟩
abbrev S32768x1 : Shape := ⟨2, ![32768, 1]⟩
abbrev S1x1 : Shape := ⟨2, ![1, 1]⟩
abbrev S1x32 : Shape := ⟨2, ![1, 32]⟩
abbrev S32767x32 : Shape := ⟨2, ![32767, 32]⟩
abbrev S65536x1 : Shape := ⟨2, ![65536, 1]⟩

abbrev nBuf : Space → Nat
  | .hbm => 76
  | .vmem => 0
  | .smem => 0
  | _ => 0

abbrev bufTy : (tb : Table) → Fin (tcTables nBuf tb) → BufTy
  | .hbm, ⟨0, _⟩ => ⟨S32768x8x64, .f32⟩
  | .hbm, ⟨1, _⟩ => ⟨S32768x8x8, .f32⟩
  | .hbm, ⟨2, _⟩ => ⟨S32x64, .f32⟩
  | .hbm, ⟨3, _⟩ => ⟨S32, .f32⟩
  | .hbm, ⟨4, _⟩ => ⟨S1, .f32⟩
  | .hbm, ⟨5, _⟩ => ⟨S32x64, .f32⟩
  | .hbm, ⟨6, _⟩ => ⟨S32, .f32⟩
  | .hbm, ⟨7, _⟩ => ⟨S1, .f32⟩
  | .hbm, ⟨8, _⟩ => ⟨S1x32x32, .f32⟩
  | .hbm, ⟨9, _⟩ => ⟨S1, .f32⟩
  | .hbm, ⟨10, _⟩ => ⟨S1x32x32, .f32⟩
  | .hbm, ⟨11, _⟩ => ⟨S1, .f32⟩
  | .hbm, ⟨12, _⟩ => ⟨S32768x8x32, .f32⟩
  | .hbm, ⟨13, _⟩ => ⟨S32768x8x32, .f32⟩
  | .hbm, ⟨14, _⟩ => ⟨S1x1x32, .f32⟩
  | .hbm, ⟨15, _⟩ => ⟨S32768x8x32, .f32⟩
  | .hbm, ⟨16, _⟩ => ⟨S32768x8x32, .f32⟩
  | .hbm, ⟨17, _⟩ => ⟨S_, .f32⟩
  | .hbm, ⟨18, _⟩ => ⟨S32768x8x32, .f32⟩
  | .hbm, ⟨19, _⟩ => ⟨S32768x8x32, .i1⟩
  | .hbm, ⟨20, _⟩ => ⟨S_, .f32⟩
  | .hbm, ⟨21, _⟩ => ⟨S32768x8x32, .f32⟩
  | .hbm, ⟨22, _⟩ => ⟨S32768x8x32, .f32⟩
  | .hbm, ⟨23, _⟩ => ⟨S32768x8x32, .f32⟩
  | .hbm, ⟨24, _⟩ => ⟨S32768x8x32, .f32⟩
  | .hbm, ⟨25, _⟩ => ⟨S32768x8x32, .f32⟩
  | .hbm, ⟨26, _⟩ => ⟨S1x1x32, .f32⟩
  | .hbm, ⟨27, _⟩ => ⟨S32768x8x32, .f32⟩
  | .hbm, ⟨28, _⟩ => ⟨S32768x8x32, .f32⟩
  | .hbm, ⟨29, _⟩ => ⟨S_, .f32⟩
  | .hbm, ⟨30, _⟩ => ⟨S32768x8x32, .f32⟩
  | .hbm, ⟨31, _⟩ => ⟨S32768x8x32, .i1⟩
  | .hbm, ⟨32, _⟩ => ⟨S_, .f32⟩
  | .hbm, ⟨33, _⟩ => ⟨S32768x8x32, .f32⟩
  | .hbm, ⟨34, _⟩ => ⟨S32768x8x32, .f32⟩
  | .hbm, ⟨35, _⟩ => ⟨S32768x8x32, .f32⟩
  | .hbm, ⟨36, _⟩ => ⟨S32768x7x32, .f32⟩
  | .hbm, ⟨37, _⟩ => ⟨S_, .f32⟩
  | .hbm, ⟨38, _⟩ => ⟨S32768x32, .f32⟩
  | .hbm, ⟨39, _⟩ => ⟨S_, .f32⟩
  | .hbm, ⟨40, _⟩ => ⟨S32768x32, .f32⟩
  | .hbm, ⟨41, _⟩ => ⟨S32768x32, .f32⟩
  | .hbm, ⟨42, _⟩ => ⟨S32768x1x32, .f32⟩
  | .hbm, ⟨43, _⟩ => ⟨S32768x32, .f32⟩
  | .hbm, ⟨44, _⟩ => ⟨S32768x1x32, .f32⟩
  | .hbm, ⟨45, _⟩ => ⟨S32768x32, .f32⟩
  | .hbm, ⟨46, _⟩ => ⟨S32768x1x32, .f32⟩
  | .hbm, ⟨47, _⟩ => ⟨S32768x32, .f32⟩
  | .hbm, ⟨48, _⟩ => ⟨S1x32x32768, .f32⟩
  | .hbm, ⟨49, _⟩ => ⟨S32768x1, .f32⟩
  | .hbm, ⟨50, _⟩ => ⟨S1x1, .f32⟩
  | .hbm, ⟨51, _⟩ => ⟨S32768x1, .f32⟩
  | .hbm, ⟨52, _⟩ => ⟨S32768x1, .f32⟩
  | .hbm, ⟨53, _⟩ => ⟨S1x32, .f32⟩
  | .hbm, ⟨54, _⟩ => ⟨S32767x32, .f32⟩
  | .hbm, ⟨55, _⟩ => ⟨S32768x32, .f32⟩
  | .hbm, ⟨56, _⟩ => ⟨S1x32x32768, .f32⟩
  | .hbm, ⟨57, _⟩ => ⟨S32768x1, .f32⟩
  | .hbm, ⟨58, _⟩ => ⟨S1x1, .f32⟩
  | .hbm, ⟨59, _⟩ => ⟨S32768x1, .f32⟩
  | .hbm, ⟨60, _⟩ => ⟨S32768x1, .f32⟩
  | .hbm, ⟨61, _⟩ => ⟨S65536x1, .f32⟩
  | .hbm, ⟨62, _⟩ => ⟨S1x32x32768, .f32⟩
  | .hbm, ⟨63, _⟩ => ⟨S32768x1, .f32⟩
  | .hbm, ⟨64, _⟩ => ⟨S1x1, .f32⟩
  | .hbm, ⟨65, _⟩ => ⟨S32768x1, .f32⟩
  | .hbm, ⟨66, _⟩ => ⟨S32768x1, .f32⟩
  | .hbm, ⟨67, _⟩ => ⟨S1x32, .f32⟩
  | .hbm, ⟨68, _⟩ => ⟨S32767x32, .f32⟩
  | .hbm, ⟨69, _⟩ => ⟨S32768x32, .f32⟩
  | .hbm, ⟨70, _⟩ => ⟨S1x32x32768, .f32⟩
  | .hbm, ⟨71, _⟩ => ⟨S32768x1, .f32⟩
  | .hbm, ⟨72, _⟩ => ⟨S1x1, .f32⟩
  | .hbm, ⟨73, _⟩ => ⟨S32768x1, .f32⟩
  | .hbm, ⟨74, _⟩ => ⟨S32768x1, .f32⟩
  | .hbm, ⟨75, _⟩ => ⟨S65536x1, .f32⟩
  | _, _ => ⟨S32768x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Proof.Rows.lean ====
module

public import Idealize.ShloMosaic.Lib.Pipeline.Value
public import Idealize.ShloMosaic.Lib.Pointwise

@[expose] public section
open Idealize.ShloMosaic

namespace Cert.Gad

/-- Two arrays of rows, one below the other, read at row `r`. -/
theorem rows_at {α : Type} {n₁ n₂ n w : ℕ} (x : (⟨2, ![n₁, w]⟩ : Shape).Idx → α) (y : (⟨2, ![n₂, w]⟩ : Shape).Idx → α)
    (h : Shape.Concatenates [(⟨2, ![n₁, w]⟩ : Shape), ⟨2, ![n₂, w]⟩] ⟨2, ![n, w]⟩ 0) (hn : n = n₁ + n₂)
    (r : Fin n) (j : Fin w) :
    concatenate (⟨2, ![n, w]⟩ : Shape) 0 [⟨⟨2, ![n₁, w]⟩, x⟩, ⟨⟨2, ![n₂, w]⟩, y⟩] h (ix2 r j)
    = if hr : (r : ℕ) < n₁ then x (ix2 ⟨r, hr⟩ j) else y (ix2 ⟨(r : ℕ) - n₁, by omega⟩ j) := by
  by_cases hr : (r : ℕ) < n₁
  · rw [dif_pos hr]
    exact concatenate_pair_apply_left 0 x y h (ix2 r j) rfl (ix2 ⟨r, hr⟩ j) (Fin.forall_fin_two.2 ⟨rfl, rfl⟩)
  · rw [dif_neg hr]
    refine concatenate_pair_apply_right 0 x y h (ix2 r j) rfl rfl (ix2 ⟨(r : ℕ) - n₁, by omega⟩ j)
      (Fin.forall_fin_two.2 ⟨fun h => absurd rfl h, fun _ => rfl⟩) ?_
    show (r : ℕ) - n₁ + n₁ = r
    omega

end Cert.Gad
end
-- ==== Proof.Results.lean ====
module

public import proofs.«01_k».proof.Proof.Gen.KernelIdeal.Frame
public import Idealize.ShloMosaic.Lib.Pipeline.ValueKit
public import Idealize.ShloMosaic.Lib.StableHlo.Run
public import proofs.«01_k».proof.Proof.Rows

@[expose] public section
set_option maxRecDepth 16384
noncomputable section
open Idealize.ShloMosaic Idealize.ShloMosaic.TcCoe Idealize.SL.Sem
namespace Cert.KernelIdeal.Gad
open Cert.KernelIdeal Cert.KernelIdeal.Gen

/-!
The kernel program's run, with its two results named by the array the grid fills.
-/

variable (m : (ℓ : Loc nD τ sig) → Buf (Elt Ideal) ℓ) (ρ : Dev nD → PrngReg)

/-- The 32768 × 4 array the grid fills. -/
def filled (c : Dev nD) : FVec Ideal S32768x4 .f32 := (dats m 0 c).arrAt 9 cfg0.N

/-- Two columns of an array of four, one below the other. -/
def stacked (A : FVec Ideal S32768x4 .f32) (a b : ℕ) (ha : S32768x4.Slices ![0, a] S32768x1)
    (hb : S32768x4.Slices ![0, b] S32768x1) : FVec Ideal S65536x1 .f32 :=
  concatenate S65536x1 0 [⟨S32768x1, extractStridedSlice S32768x1 ![0, a] A ha⟩,
    ⟨S32768x1, extractStridedSlice S32768x1 ![0, b] A hb⟩] concatenates_S32768x1_S32768x1_S65536x1_d0

/-- The lines after the grid find the filled array where the grid left it. -/
theorem after_grid (c : Dev nD) :
    Pipeline.withArrays (cfgs 0).spec c (V0 m c) (fun w => (dats m 0 c).arrAt w (cfgs 0).N) (Proc.devRef .tc main_v29)
    = filled m c :=
  (dats m 0 c).withArrays_arrAt sharedIn0 (V0 m c) (A_eq m c) 9

/-- The first result is columns 0 and 1 of the filled array. -/
theorem result0 (c : Dev nD) :
    Pipeline.afterTail₀ cfgs (dats m) 0 (V0 m) [hostOps1] c main_v32
    = stacked (filled m c) 0 1 slices_S32768x4_S32768x1_0_0 slices_S32768x4_S32768x1_0_1 := by
  rw [← after_grid m c]
  unfold Pipeline.afterTail₀ stacked
  generalize Pipeline.withArrays (cfgs 0).spec c (V0 m c) (fun w => (dats m 0 c).arrAt w (cfgs 0).N) = W
  simp only [hostOps1, List.flatten_cons, List.flatten_nil, List.append_nil]
  after_results_simp
  rfl

/-- The second result is columns 2 and 3. -/
theorem result1 (c : Dev nD) :
    Pipeline.afterTail₀ cfgs (dats m) 0 (V0 m) [hostOps1] c main_v35
    = stacked (filled m c) 2 3 slices_S32768x4_S32768x1_0_2 slices_S32768x4_S32768x1_0_3 := by
  rw [← after_grid m c]
  unfold Pipeline.afterTail₀ stacked
  generalize Pipeline.withArrays (cfgs 0).spec c (V0 m c) (fun w => (dats m 0 c).arrAt w (cfgs 0).N) = W
  simp only [hostOps1, List.flatten_cons, List.flatten_nil, List.append_nil]
  after_results_simp
  rfl

/-- Every fair run of the kernel program ends with the two results read off the filled array and the
    twelve arguments unchanged. -/
theorem run_results : θ_run defs (onTc (τ := τ) (main (F := Ideal))) ⟨m, fun _ => 0, ρ⟩ (fun r => ∀ c : Dev nD,
      r.2.mem ((c.tc : Thread nD τ).loc main_v32) = stacked (filled m c) 0 1 slices_S32768x4_S32768x1_0_0 slices_S32768x4_S32768x1_0_1
      ∧ r.2.mem ((c.tc : Thread nD τ).loc main_v35) = stacked (filled m c) 2 3 slices_S32768x4_S32768x1_0_2 slices_S32768x4_S32768x1_0_3) :=
  (θ_run defs _ _).mono (fun _ h c =>
    ⟨((h c).2 main_v32 (Pipeline.mem_restRefs_of main_v32 (by decide) (by decide))).trans (result0 m c),
     ((h c).2 main_v35 (Pipeline.mem_restRefs_of main_v35 (by decide) (by decide))).trans (result1 m c)⟩) (run_main m ρ)

/-- One column of an array of four, at an index. -/
theorem column_at (A : FVec Ideal S32768x4 .f32) (a : ℕ) (ha : S32768x4.Slices ![0, a] S32768x1) (ha4 : a < 4) (n : Fin 32768) :
    extractStridedSlice S32768x1 ![0, a] A ha (ix2 n 0) = A (ix2 n ⟨a, ha4⟩) := by
  pointwise

/-- A stacked pair at an index: the upper half reads column `a`, the lower column `b`. -/
theorem stacked_at (A : FVec Ideal S32768x4 .f32) (a b : ℕ) (ha : S32768x4.Slices ![0, a] S32768x1)
    (hb : S32768x4.Slices ![0, b] S32768x1) (ha4 : a < 4) (hb4 : b < 4) (n : Fin 65536) :
    stacked A a b ha hb (ix2 n 0)
    = if h : (n : ℕ) < 32768 then A (ix2 ⟨n, h⟩ ⟨a, ha4⟩) else A (ix2 ⟨(n : ℕ) - 32768, by omega⟩ ⟨b, hb4⟩) :=
  (Cert.Gad.rows_at _ _ concatenates_S32768x1_S32768x1_S65536x1_d0 rfl n 0).trans (by
    simp only [column_at _ _ ha ha4, column_at _ _ hb hb4])

end Cert.KernelIdeal.Gad
end
-- ==== Proof.Masks.lean ====
/- The constant matrices the kernel builds from lane and row counters, read at an index. Each one is a matrix of
   zeros and ones (the row selector also holds sevenths), computed in the program by 32-bit floor divisions and
   remainders; here each is given by the plain condition on the row and the lane that those words decide. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Gad

open Cert.KernelIdeal Cert.KernelIdeal.Gen

/-- The kernel's named constant is one seventh. -/
theorem seventh :
    Named.named (F := Ideal) κ "seventh" (φ := .f32) 0x3E124925#32 = ((1 / 7 : ℝ) : EReal) :=
  IdealRules.named_const.ideal_named_scalar _ _ _ _ rfl

/-- A one-bit word that decides `P`, widened and converted to a float, is 1 where `P` holds and 0 elsewhere. -/
theorem bit_to_float (b : BitVec 1) (P : Prop) [Decidable P] (h : b = BitVec.ofBool (decide P)) :
    FloatOps.sitofp (F := Ideal) .f32 (BitVec.setWidth 32 b) = if P then (1 : EReal) else 0 := by
  subst h
  by_cases hP : P
  · simp only [hP, decide_true, if_true]
    show (((BitVec.setWidth 32 (BitVec.ofBool true)).toInt : ℝ) : EReal) = 1
    rw [show (BitVec.setWidth 32 (BitVec.ofBool true)).toInt = 1 by decide]; norm_num
  · simp only [hP, decide_false, if_false]
    show (((BitVec.setWidth 32 (BitVec.ofBool false)).toInt : ℝ) : EReal) = 0
    rw [show (BitVec.setWidth 32 (BitVec.ofBool false)).toInt = 0 by decide]; norm_num

/-- The repeating matrix: row `q` has a one at the lanes that are `q` modulo 8. -/
theorem rep_at (q : Fin 8) (k : Fin 128) :
    k0_pay5 (F := Ideal) (ix2 q k) = if (k : ℕ) % 8 = q then (1 : EReal) else 0 := by
  pointwise [k0_pay5]
  refine bit_to_float _ _ ?_
  revert q k
  decide +kernel

/-- The block mask: a one where row and lane lie in the same run of 8. -/
theorem mask_at (r k : Fin 128) :
    k0_pay8 (F := Ideal) (iota .tc S128x128 32 [0] iota_S128x128_d0_w32)
      (iota .tc S128x128 32 [1] iota_S128x128_d1_w32) 8#32 k0_pay6 k0_pay7
      (Scalar.extui (Scalar.cmpi .sgt 8#32 0#32)) (Scalar.extui (Scalar.cmpi .slt 8#32 0#32)) (ix2 r k)
    = if (r : ℕ) / 8 = (k : ℕ) / 8 then (1 : EReal) else 0 := by
  pointwise [k0_pay8, k0_pay6, k0_pay7]
  refine bit_to_float _ _ ?_
  revert r k
  decide +kernel

/-- The row selector's run number of a lane, as the program computes it. -/
abbrev laneRun : IVec S48x128 32 :=
  k0_pay12 (iota .tc S48x128 32 [1] iota_S48x128_d1_w32) 8#32 k0_pay9 k0_pay10 k0_pay11

/-- The row selector's three groups of 16 rows: the rows below 16 average the first seven lanes of run `r`, the next
    16 pick the last lane of run `r - 16`, and the last 16 the seventh lane of run `r - 32`. -/
theorem sel_at (r : Fin 48) (k : Fin 128) :
    k0_pay16 (F := Ideal) (iota .tc S48x128 32 [0] iota_S48x128_d0_w32) laneRun
      (k0_pay13 (iota .tc S48x128 32 [1] iota_S48x128_d1_w32))
      (k0_pay14 (F := Ideal) (iota .tc S48x128 32 [0] iota_S48x128_d0_w32)
        (iota .tc S48x128 32 [1] iota_S48x128_d1_w32) 8#32 k0_pay9 k0_pay10 k0_pay11)
      (k0_pay15 (iota .tc S48x128 32 [0] iota_S48x128_d0_w32)
        (iota .tc S48x128 32 [1] iota_S48x128_d1_w32) 8#32 k0_pay9 k0_pay10 k0_pay11) (ix2 r k)
    = (if (k : ℕ) / 8 = r ∧ (k : ℕ) % 8 ≤ 6 then (1 : EReal) else 0) * ((1 / 7 : ℝ) : EReal)
      + (if (k : ℕ) / 8 + 16 = r ∧ (k : ℕ) % 8 = 7 then (1 : EReal) else 0)
      + (if (k : ℕ) / 8 + 32 = r ∧ (k : ℕ) % 8 = 6 then (1 : EReal) else 0) := by
  pointwise [k0_pay16, k0_pay15, k0_pay14, k0_pay13, k0_pay12, k0_pay11, k0_pay10, k0_pay9]
  rw [seventh]
  refine congrArg₂ (· + ·) (congrArg₂ (· + ·) (congrArg (· * _) ?_) ?_) ?_ <;>
  · refine bit_to_float _ _ ?_
    revert r k
    decide +kernel

/-- The first column matrix: column 0 sums the context lanes, column 2 the patch lanes. -/
theorem colEven_at (j : Fin 64) (k : Fin 4) :
    k0_pay17 (F := Ideal) (ix2 j k)
    = if ((j : ℕ) < 32 ∧ (k : ℕ) = 0) ∨ (32 ≤ (j : ℕ) ∧ (k : ℕ) = 2) then (1 : EReal) else 0 := by
  pointwise [k0_pay17]
  refine bit_to_float _ _ ?_
  revert j k
  decide +kernel

/-- The second column matrix: column 1 sums the context lanes, column 3 the patch lanes. -/
theorem colOdd_at (j : Fin 64) (k : Fin 4) :
    k0_pay18 (F := Ideal) (ix2 j k)
    = if ((j : ℕ) < 32 ∧ (k : ℕ) = 1) ∨ (32 ≤ (j : ℕ) ∧ (k : ℕ) = 3) then (1 : EReal) else 0 := by
  pointwise [k0_pay18]
  refine bit_to_float _ _ ?_
  revert j k
  decide +kernel

/-- The lane test: the first 32 lanes carry the context layer. -/
theorem lane_at (j : Fin 64) :
    k0_pay19 (ix2 0 j) = BitVec.ofBool (decide ((j : ℕ) < 32)) := by
  pointwise [k0_pay19]
  revert j
  decide +kernel

end Cert.KernelIdeal.Gad

end
-- ==== Proof.Sums.lean ====
module

public import Idealize.ShloMosaic.Lib.Pointwise

@[expose] public section

noncomputable section

/-!
The problem's numbers as functions of extended reals, and the finite sums with a 0-1 factor that
occur when a block of rows is treated by matrix products with selector matrices. No program is mentioned here.
-/
namespace Cert.Gad
open Idealize.ShloMosaic

/-- The parametric rectifier: `x` itself where it is not negative, `a` times it otherwise. -/
def act (a x : EReal) : EReal := if 0 ≤ x then x else a * x

/-- One feature of one node after a graph convolution: the node's adjacency row `A` against the
    eight nodes' projected features, plus the bias, through the rectifier. -/
def node (A : Fin 8 → EReal) (X : Fin 8 → Fin 64 → EReal) (w : Fin 64 → EReal) (b a : EReal) : EReal :=
  act a ((∑ t, A t * ∑ i, X t i * w i) + b)

/-- The mean of the first seven of eight values, each multiplied by one seventh. -/
def mean (h : Fin 8 → EReal) : EReal := ∑ t : Fin 7, ((1 / 7 : ℝ) : EReal) * h ⟨t, by omega⟩

/-- The bilinear discriminator of two vectors of 32 features, with its bias. -/
def score (L Q : Fin 32 → EReal) (W : Fin 32 → Fin 32 → EReal) (b : EReal) : EReal :=
  (∑ j, (∑ i, L i * W i j) * Q j) + b

/-- A finite nonnegative factor goes into a finite sum, whatever the summands are. -/
theorem mul_sum_seventh {ι : Type*} (s : Finset ι) (f : ι → EReal) :
    ((1 / 7 : ℝ) : EReal) * ∑ i ∈ s, f i = ∑ i ∈ s, ((1 / 7 : ℝ) : EReal) * f i := by
  classical
  induction s using Finset.induction_on with
  | empty => simp
  | insert a s ha ih =>
    rw [Finset.sum_insert ha, Finset.sum_insert ha,
      EReal.left_distrib_of_nonneg_of_ne_top (by exact_mod_cast (by norm_num : (0 : ℝ) ≤ 1 / 7)) (EReal.coe_ne_top _), ih]

/-- Dividing a sum of seven values by seven is the mean with the factor one seventh. -/
theorem mean_eq_div (h : Fin 8 → EReal) :
    Ideal.div (∑ t : Fin 7, h ⟨t, by omega⟩) ((7 : ℝ) : EReal) = mean h := by
  rw [Ideal.div_coe (by norm_num), mul_comm, mul_sum_seventh, mean]

/-- Among eight columns a 0-1 factor picks the one with the lane's remainder. -/
theorem sum_residue (A : Fin 8 → EReal) (k : ℕ) :
    ∑ q : Fin 8, A q * (if k % 8 = (q : ℕ) then (1 : EReal) else 0) = A ⟨k % 8, Nat.mod_lt _ (by omega)⟩ := by
  rw [Finset.sum_eq_single (⟨k % 8, Nat.mod_lt _ (by omega)⟩ : Fin 8)]
  · simp
  · intro q _ hq
    rw [if_neg fun h => hq (Fin.ext h.symm), mul_zero]
  · intro h; exact absurd (Finset.mem_univ _) h

/-- A sum over 128 lanes that keeps only the lanes of run `p` is the sum over the run's eight lanes. -/
theorem sum_run (p : ℕ) (hp : p < 16) (f : Fin 128 → EReal) :
    ∑ k : Fin 128, (if (k : ℕ) / 8 = p then f k else 0) = ∑ t : Fin 8, f ⟨8 * p + t, by omega⟩ := by
  rw [← Finset.sum_filter]
  refine (Finset.sum_bij (fun (t : Fin 8) _ => (⟨8 * p + t, by omega⟩ : Fin 128)) ?_ ?_ ?_ ?_).symm
  · intro t _; simp only [Finset.mem_filter, Finset.mem_univ, true_and]; omega
  · intro s _ t _ h; simp only [Fin.mk.injEq] at h; exact Fin.ext (by omega)
  · intro k hk
    simp only [Finset.mem_filter, Finset.mem_univ, true_and] at hk
    exact ⟨⟨k % 8, by omega⟩, Finset.mem_univ _, Fin.ext (by simp only []; omega)⟩
  · intro t _; rfl

/-- A 128-lane row, masked to the run of eight lanes its row number lies in, against a column: the
    eight products of that run. -/
theorem sum_masked (r : ℕ) (hr : r < 128) (A : Fin 8 → EReal) (F : Fin 128 → EReal) :
    ∑ k : Fin 128, (A ⟨(k : ℕ) % 8, by omega⟩ * (if r / 8 = (k : ℕ) / 8 then (1 : EReal) else 0)) * F k
    = ∑ t : Fin 8, A t * F ⟨8 * (r / 8) + t, by omega⟩ := by
  have e : ∀ k : Fin 128, (A ⟨(k : ℕ) % 8, by omega⟩ * (if r / 8 = (k : ℕ) / 8 then (1 : EReal) else 0)) * F k
      = if (k : ℕ) / 8 = r / 8 then A ⟨(k : ℕ) % 8, by omega⟩ * F k else 0 := by
    intro k
    by_cases h : (k : ℕ) / 8 = r / 8
    · rw [if_pos h, if_pos h.symm, mul_one]
    · rw [if_neg h, if_neg (Ne.symm h), mul_zero, zero_mul]
  rw [Finset.sum_congr rfl fun k _ => e k, sum_run (r / 8) (by omega)]
  refine Finset.sum_congr rfl fun t _ => ?_
  congr 2
  exact Fin.ext (by simp only []; omega)

/-- A 0-1 selector that holds one lane of a run of eight reads that lane. -/
theorem sum_one (n : ℕ) (hn : n < 128) (H : Fin 128 → EReal) :
    ∑ k : Fin 128, (if (k : ℕ) = n then (1 : EReal) else 0) * H k = H ⟨n, hn⟩ := by
  rw [Finset.sum_eq_single (⟨n, hn⟩ : Fin 128)]
  · simp
  · intro k _ hk
    rw [if_neg fun h => hk (Fin.ext h), zero_mul]
  · intro h; exact absurd (Finset.mem_univ _) h

/-- The averaging selector on run `p`: one seventh of each of the run's first seven lanes. -/
theorem sum_mean (p : ℕ) (hp : p < 16) (H : Fin 128 → EReal) :
    ∑ k : Fin 128, ((if (k : ℕ) / 8 = p ∧ (k : ℕ) % 8 ≤ 6 then (1 : EReal) else 0) * ((1 / 7 : ℝ) : EReal)) * H k
    = mean fun t => H ⟨8 * p + t, by omega⟩ := by
  have e : ∀ k : Fin 128, ((if (k : ℕ) / 8 = p ∧ (k : ℕ) % 8 ≤ 6 then (1 : EReal) else 0) * ((1 / 7 : ℝ) : EReal)) * H k
      = if (k : ℕ) / 8 = p then (if (k : ℕ) % 8 ≤ 6 then ((1 / 7 : ℝ) : EReal) * H k else 0) else 0 := by
    intro k
    by_cases h : (k : ℕ) / 8 = p <;> by_cases h' : (k : ℕ) % 8 ≤ 6 <;> simp [h, h']
  rw [Finset.sum_congr rfl fun k _ => e k, sum_run p hp, Fin.sum_univ_castSucc, if_neg, add_zero, mean]
  · refine Finset.sum_congr rfl fun t _ => ?_
    rw [if_pos]
    · rfl
    · simp only [Fin.val_castSucc]; omega
  · simp only [Fin.val_last]; omega

/-- The same selector over eight lanes alone. -/
theorem sum_mean8 (H : Fin 8 → EReal) :
    ∑ k : Fin 8, ((if (k : ℕ) ≤ 6 then (1 : EReal) else 0) * ((1 / 7 : ℝ) : EReal)) * H k = mean H := by
  rw [Fin.sum_univ_castSucc, if_neg, zero_mul, zero_mul, add_zero, mean]
  · refine Finset.sum_congr rfl fun t _ => ?_
    rw [if_pos, one_mul]
    · rfl
    · simp only [Fin.val_castSucc]; omega
  · simp only [Fin.val_last]; omega

/-- A sum over 64 lanes is the sum over the lower half plus the sum over the upper half. -/
theorem sum_halves (f : Fin 64 → EReal) :
    ∑ j, f j = (∑ j : Fin 32, f ⟨j, by omega⟩) + ∑ j : Fin 32, f ⟨32 + j, by omega⟩ :=
  Fin.sum_univ_add (a := 32) (b := 32) f

/-- A 0-1 column over the two halves of 64 lanes keeps the lower sum where `P` holds and the upper
    sum where `Q` holds. -/
theorem sum_column (f : Fin 64 → EReal) (P Q : Prop) [Decidable P] [Decidable Q]
    [∀ j : Fin 64, Decidable (((j : ℕ) < 32 ∧ P) ∨ (32 ≤ (j : ℕ) ∧ Q))] :
    ∑ j : Fin 64, f j * (if ((j : ℕ) < 32 ∧ P) ∨ (32 ≤ (j : ℕ) ∧ Q) then (1 : EReal) else 0)
    = (if P then ∑ j : Fin 32, f ⟨j, by omega⟩ else 0) + (if Q then ∑ j : Fin 32, f ⟨32 + j, by omega⟩ else 0) := by
  rw [sum_halves]
  congr 1
  · refine (Finset.sum_congr rfl fun j _ => ?_).trans (b := ∑ j : Fin 32, if P then f ⟨j, by omega⟩ else 0) ?_
    · have hj : ¬ 32 ≤ (j : ℕ) := by omega
      by_cases h : P <;> simp [h, hj]
    · by_cases h : P <;> simp [h]
  · by_cases h : Q <;> simp [h]

end Cert.Gad
end
-- ==== Proof.Block.lean ====
module

public import proofs.«01_k».proof.Proof.Masks
public import proofs.«01_k».proof.Proof.Sums
public import Idealize.ShloMosaic.Lib.Pipeline.Value
public import proofs.«01_k».proof.Proof.Gen.KernelIdeal.Frame
public import Idealize.ShloMosaic.Lib.Pipeline.ValueKit

@[expose] public section
set_option maxRecDepth 16384
noncomputable section
open Idealize.ShloMosaic Idealize.ShloMosaic.TcCoe Idealize.SL.Sem
namespace Cert.KernelIdeal.Gad
open Cert.KernelIdeal Cert.KernelIdeal.Gen

/-!
What one block computes, first part: the 512 rows go through the two graph convolutions in 32 groups of 16
rows, each group by one product with a masked 128 × 128 matrix, and a selector matrix takes each row's mean,
last and seventh node.
-/

/-- Group `g`'s 128 rows lie in the spread-out adjacencies. -/
theorem slices_lanes (g : Fin 32) : S4096x128.Slices ![128 * (g : ℕ), 0] S128x128 := by
  revert g; decide +kernel

/-- Group `g`'s 128 rows lie in the transformed inputs. -/
theorem slices_rows (g : Fin 32) : S4096x64.Slices ![128 * (g : ℕ), 0] S128x64 := by
  revert g; decide +kernel

section Group
variable (bcat aa : FVec Ideal S1x64 .f32) (mask : FVec Ideal S128x128 .f32) (sel : FVec Ideal S48x128 .f32)
  (fts : FVec Ideal S4096x64 .f32) (adjT : FVec Ideal S4096x128 .f32)

/-- Group `g`'s nodes before the rectifier: the masked adjacencies times the transformed inputs, plus the bias. -/
def groupPre (g : Fin 32) : FVec Ideal S128x64 .f32 :=
  addf (matmul dot_S128x128_S128x64_S128x64_1_0_0_1_n_n none
      (mulf (extractStridedSlice S128x128 ![128 * (g : ℕ), 0] adjT (slices_lanes g)) mask)
      (extractStridedSlice S128x64 ![128 * (g : ℕ), 0] fts (slices_rows g))
      (constant S128x64 .f32 0x00000000#32))
    (broadcastTo S128x64 bcat broadcasts_S1x64_S128x64)

/-- Group `g`'s 48 selected rows: 16 means, 16 last nodes, 16 seventh nodes, after the rectifier. -/
def groupRed (g : Fin 32) : FVec Ideal S48x64 .f32 :=
  matmul dot_S48x128_S128x64_S48x64_1_0_0_1_n_n none sel
    (select (cmpf .oge (groupPre bcat mask fts adjT g) (broadcast S128x64 (Scalar.ofBits .f32 0x00000000#32)))
      (groupPre bcat mask fts adjT g)
      (mulf (broadcastTo S128x64 aa broadcasts_S1x64_S128x64) (groupPre bcat mask fts adjT g)))
    (constant S48x64 .f32 0x00000000#32)

/-- The selected rows `o` to `o + 15` of all 32 groups, one below the other. -/
def stack (o : ℕ) (ho : S48x64.Slices ![o, 0] S16x64) : FVec Ideal S512x64 .f32 :=
  concatenate S512x64 0 (List.ofFn fun g : Fin 32 =>
    (⟨S16x64, extractStridedSlice S16x64 ![o, 0] (groupRed bcat aa mask sel fts adjT g) ho⟩ : (s : Shape) × (s.Idx → EReal)))
    concatenates_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S512x64_d0

end Group

/-- The mask of the diagonal runs, as the block computes it. -/
def maskM : FVec Ideal S128x128 .f32 := k0_pay8 (F := Ideal) (iota .tc S128x128 32 [0] iota_S128x128_d0_w32)
      (iota .tc S128x128 32 [1] iota_S128x128_d1_w32) 8#32 k0_pay6 k0_pay7
      (Scalar.extui (Scalar.cmpi .sgt 8#32 0#32)) (Scalar.extui (Scalar.cmpi .slt 8#32 0#32))
/-- The row selector, as the block computes it. -/
def selM : FVec Ideal S48x128 .f32 := k0_pay16 (F := Ideal) (iota .tc S48x128 32 [0] iota_S48x128_d0_w32) laneRun
      (k0_pay13 (iota .tc S48x128 32 [1] iota_S48x128_d1_w32))
      (k0_pay14 (F := Ideal) (iota .tc S48x128 32 [0] iota_S48x128_d0_w32)
        (iota .tc S48x128 32 [1] iota_S48x128_d1_w32) 8#32 k0_pay9 k0_pay10 k0_pay11)
      (k0_pay15 (iota .tc S48x128 32 [0] iota_S48x128_d0_w32)
        (iota .tc S48x128 32 [1] iota_S48x128_d1_w32) 8#32 k0_pay9 k0_pay10 k0_pay11)

/-- The inputs of the block times the joined weights. -/
def ftsM (x0 : FVec Ideal S512x8x64 .f32) (x4 : FVec Ideal S64x64 .f32) : FVec Ideal S4096x64 .f32 :=
  k0_pay21 (F := Ideal) (k0_pay2 x4) (k0_pay20 x0) (constant S4096x64 .f32 0x00000000#32)
/-- The adjacencies of the block, each row repeated over the lanes. -/
def adjM (x1 : FVec Ideal S512x8x8 .f32) : FVec Ideal S4096x128 .f32 := k0_pay22 (F := Ideal) k0_pay5 x1

/-- What the block stores, written with the stacked groups. -/
theorem out_eq (x0 : FVec Ideal S512x8x64 .f32) (x1 : FVec Ideal S512x8x8 .f32) (x2 : FVec Ideal S1x8x64 .f32)
    (x3 : FVec Ideal S1x8x8 .f32) (x4 : FVec Ideal S64x64 .f32) (x5 x6 : FVec Ideal S1x64 .f32)
    (x7 : FVec Ideal S64x64 .f32) (x8 : FVec Ideal S1x4 .f32) (y : S512x4.Idx) :
    out0_9 (F := Ideal) x0 x1 x2 x3 x4 x5 x6 x7 x8 y
    = k0_pay1 (F := Ideal) (k0_pay157 (k0_pay3 x5) (k0_pay4 x6) k0_pay17 k0_pay18 k0_pay19
        (stack (k0_pay3 x5) (k0_pay4 x6) maskM selM (ftsM x0 x4) (adjM x1) 16 slices_S48x64_o16_0_S16x64)
        (select (broadcastTo S512x64 (shapeCast S1x64 k0_pay19 shapeCasts_S1x64_S1x64) broadcasts_S1x64_S512x64)
          (stack (k0_pay3 x5) (k0_pay4 x6) maskM selM (ftsM x0 x4) (adjM x1) 0 slices_S48x64_o0_0_S16x64)
          (stack (k0_pay3 x5) (k0_pay4 x6) maskM selM (ftsM x0 x4) (adjM x1) 32 slices_S48x64_o32_0_S16x64))
        (k0_pay156 (k0_pay2 x4) x2) x3 x7) (k0_pay158 x8) y := by
  unfold_out out0_9
  frame_out
  rfl

/-! ### The groups of sixteen rows, read at an index -/

section At
variable (x0 : FVec Ideal S512x8x64 .f32) (x1 : FVec Ideal S512x8x8 .f32) (x4 : FVec Ideal S64x64 .f32)
  (bcat aa : FVec Ideal S1x64 .f32)

/-- Feature `j` of node `s` in row `r` of the block: both graph convolutions at once, `j` running
    over the 64 features of the two of them. -/
def feat (r : Fin 512) (s : Fin 8) (j : Fin 64) : EReal :=
  Cert.Gad.node (fun t => x1 (ix3 r s t)) (fun t i => x0 (ix3 r t i)) (fun i => x4 (ix2 i j))
    (bcat (ix2 0 j)) (aa (ix2 0 j))

/-- The mask holds 1 where row and lane lie in the same run of eight. -/
theorem maskM_at (r k : Fin 128) : maskM (ix2 r k) = if (r : ℕ) / 8 = (k : ℕ) / 8 then (1 : EReal) else 0 :=
  mask_at r k

/-- The row selector's entries. -/
theorem selM_at (r : Fin 48) (k : Fin 128) :
    selM (ix2 r k) = (if (k : ℕ) / 8 = r ∧ (k : ℕ) % 8 ≤ 6 then (1 : EReal) else 0) * ((1 / 7 : ℝ) : EReal)
      + (if (k : ℕ) / 8 + 16 = r ∧ (k : ℕ) % 8 = 7 then (1 : EReal) else 0)
      + (if (k : ℕ) / 8 + 32 = r ∧ (k : ℕ) % 8 = 6 then (1 : EReal) else 0) :=
  sel_at r k

/-- The projected features, one node per row: node `n % 8` of block row `n / 8`. -/
theorem fts_at (n : Fin 4096) (j : Fin 64) :
    ftsM x0 x4 (ix2 n j) = ∑ i : Fin 64, x0 (ix3 ⟨(n : ℕ) / 8, by omega⟩ ⟨(n : ℕ) % 8, by omega⟩ i) * x4 (ix2 i j) := by
  pointwise [ftsM, k0_pay21, k0_pay2, k0_pay20]

/-- The adjacency rows repeated along the 128 lanes: lane `k` holds entry `k % 8`. -/
theorem adj_at (n : Fin 4096) (k : Fin 128) :
    adjM x1 (ix2 n k) = x1 (ix3 ⟨(n : ℕ) / 8, by omega⟩ ⟨(n : ℕ) % 8, by omega⟩ ⟨(k : ℕ) % 8, by omega⟩) := by
  pointwise [adjM, k0_pay22]
  rw [← Cert.Gad.sum_residue (fun q => x1 (ix3 ⟨(n : ℕ) / 8, by omega⟩ ⟨(n : ℕ) % 8, by omega⟩ q)) k]
  exact Finset.sum_congr rfl fun q _ => by rw [rep_at]

/-- Before the rectifier, row `x` of group `g` is node `x % 8` of block row `16 g + x / 8`. -/
theorem groupPre_at (g : Fin 32) (x : Fin 128) (j : Fin 64) :
    groupPre bcat maskM (ftsM x0 x4) (adjM x1) g (ix2 x j)
    = (∑ t : Fin 8, x1 (ix3 ⟨16 * (g : ℕ) + (x : ℕ) / 8, by omega⟩ ⟨(x : ℕ) % 8, by omega⟩ t)
        * ∑ i : Fin 64, x0 (ix3 ⟨16 * (g : ℕ) + (x : ℕ) / 8, by omega⟩ t i) * x4 (ix2 i j)) + bcat (ix2 0 j) := by
  pointwise [groupPre]
  congr 1
  have hd : (128 * (g : ℕ) + x) / 8 = 16 * (g : ℕ) + (x : ℕ) / 8 := by omega
  have hm : (128 * (g : ℕ) + x) % 8 = (x : ℕ) % 8 := by omega
  rw [← (Cert.Gad.sum_masked x x.isLt
      (fun q => x1 (ix3 ⟨16 * (g : ℕ) + (x : ℕ) / 8, by omega⟩ ⟨(x : ℕ) % 8, by omega⟩ q))
      (fun k => ftsM x0 x4 (ix2 ⟨128 * (g : ℕ) + k, by omega⟩ j))).trans
    (Finset.sum_congr rfl fun t _ => by
      rw [fts_at]
      congr 1
      refine Finset.sum_congr rfl fun i _ => ?_
      congr 3 <;> exact Fin.ext (by simp only []; omega))]
  refine Finset.sum_congr rfl fun k _ => ?_
  refine congrArg₂ (· * ·) (congrArg₂ (· * ·) ((adj_at x1 _ k).trans ?_) (maskM_at x k)) rfl
  simp only [hd, hm]

/-- After the rectifier, row `x` of group `g` is the feature of that node. -/
theorem groupAct_at (g : Fin 32) (x : Fin 128) (j : Fin 64) :
    Cert.Gad.act (aa (ix2 0 j)) (groupPre bcat maskM (ftsM x0 x4) (adjM x1) g (ix2 x j))
    = feat x0 x1 x4 bcat aa ⟨16 * (g : ℕ) + (x : ℕ) / 8, by omega⟩ ⟨(x : ℕ) % 8, by omega⟩ j := by
  rw [groupPre_at]; rfl

/-- The reduction of group `g`: the selector's rows against the features. -/
theorem groupRed_at (g : Fin 32) (p : Fin 48) (j : Fin 64) :
    groupRed bcat aa maskM selM (ftsM x0 x4) (adjM x1) g (ix2 p j)
    = ∑ x : Fin 128, ((if (x : ℕ) / 8 = p ∧ (x : ℕ) % 8 ≤ 6 then (1 : EReal) else 0) * ((1 / 7 : ℝ) : EReal)
        + (if (x : ℕ) / 8 + 16 = p ∧ (x : ℕ) % 8 = 7 then (1 : EReal) else 0)
        + (if (x : ℕ) / 8 + 32 = p ∧ (x : ℕ) % 8 = 6 then (1 : EReal) else 0))
        * feat x0 x1 x4 bcat aa ⟨16 * (g : ℕ) + (x : ℕ) / 8, by omega⟩ ⟨(x : ℕ) % 8, by omega⟩ j := by
  pointwise [groupRed]
  refine Finset.sum_congr rfl fun x _ => ?_
  exact congrArg₂ (· * ·) (selM_at p x) (groupAct_at x0 x1 x4 bcat aa g x j)

/-- Rows 0 to 15 of the reduction are the means over the first seven nodes. -/
theorem red_mean (g : Fin 32) (p : Fin 16) (P : Fin 48) (hP : (P : ℕ) = p) (j : Fin 64) :
    groupRed bcat aa maskM selM (ftsM x0 x4) (adjM x1) g (ix2 P j)
    = Cert.Gad.mean fun s => feat x0 x1 x4 bcat aa ⟨16 * (g : ℕ) + p, by omega⟩ s j := by
  rw [groupRed_at]
  refine (Finset.sum_congr rfl fun x _ => ?_).trans ((Cert.Gad.sum_mean p p.isLt
    fun x => feat x0 x1 x4 bcat aa ⟨16 * (g : ℕ) + (x : ℕ) / 8, by omega⟩ ⟨(x : ℕ) % 8, by omega⟩ j).trans ?_)
  · simp only [hP]
    rw [if_neg (show ¬((x : ℕ) / 8 + 16 = (p : ℕ) ∧ (x : ℕ) % 8 = 7) by omega),
      if_neg (show ¬((x : ℕ) / 8 + 32 = (p : ℕ) ∧ (x : ℕ) % 8 = 6) by omega), add_zero, add_zero]
  · congr 1
    funext t
    congr 1 <;> exact Fin.ext (by simp only []; omega)

/-- Rows `o` to `o + 15` with `o` 16 or 32 pick out one node: the selector's row is 0-1 with a
    single one, at lane `8 p + s`. -/
theorem red_pick (o s : ℕ) (ho : o = 16 ∧ s = 7 ∨ o = 32 ∧ s = 6) (g : Fin 32) (p : Fin 16)
    (P : Fin 48) (hP : (P : ℕ) = o + p) (j : Fin 64) :
    groupRed bcat aa maskM selM (ftsM x0 x4) (adjM x1) g (ix2 P j)
    = feat x0 x1 x4 bcat aa ⟨16 * (g : ℕ) + p, by omega⟩ ⟨s, by omega⟩ j := by
  rw [groupRed_at]
  refine (Finset.sum_congr rfl fun x _ => ?_).trans ((Cert.Gad.sum_one (8 * (p : ℕ) + s) (by omega)
    fun x => feat x0 x1 x4 bcat aa ⟨16 * (g : ℕ) + (x : ℕ) / 8, by omega⟩ ⟨(x : ℕ) % 8, by omega⟩ j).trans ?_)
  · simp only [hP]
    rw [if_neg (show ¬((x : ℕ) / 8 = o + (p : ℕ) ∧ (x : ℕ) % 8 ≤ 6) by omega), zero_mul, zero_add]
    congr 1
    by_cases hx : (x : ℕ) = 8 * (p : ℕ) + s
    · rw [if_pos hx]
      rcases ho with ⟨rfl, rfl⟩ | ⟨rfl, rfl⟩
      · rw [if_pos (by omega), if_neg (by omega), add_zero]
      · rw [if_neg (by omega), if_pos (by omega), zero_add]
    · rw [if_neg hx, if_neg (by omega), if_neg (by omega), add_zero]
  · congr 1 <;> exact Fin.ext (by simp only []; omega)

end At

/-- Row `r` of the stacked slices comes from group `r / 16`, row `r % 16`. -/
theorem stack_at (bcat aa : FVec Ideal S1x64 .f32) (mask : FVec Ideal S128x128 .f32) (sel : FVec Ideal S48x128 .f32)
    (fts : FVec Ideal S4096x64 .f32) (adjT : FVec Ideal S4096x128 .f32)
    (o : ℕ) (ho : S48x64.Slices ![o, 0] S16x64) (h48 : o + 16 ≤ 48) (r : Fin 512) (j : Fin 64) :
    stack bcat aa mask sel fts adjT o ho (ix2 r j)
    = groupRed bcat aa mask sel fts adjT ⟨(r : ℕ) / 16, by omega⟩ (ix2 ⟨o + (r : ℕ) % 16, by omega⟩ j) := by
  unfold stack
  refine (concatenate_ofFn_apply (K := 16) (t := S512x64) (s₁ := S16x64) 0 _ _ rfl rfl (ix2 r j)
    ⟨(r : ℕ) / 16, by omega⟩ rfl (ix2 ⟨(r : ℕ) % 16, by omega⟩ j) rfl ?_).trans ?_
  · exact Fin.forall_fin_two.2 ⟨fun h => absurd rfl h, fun _ => rfl⟩
  · pointwise

section Stacks
variable (x0 : FVec Ideal S512x8x64 .f32) (x1 : FVec Ideal S512x8x8 .f32) (x4 : FVec Ideal S64x64 .f32)
  (bcat aa : FVec Ideal S1x64 .f32)

/-- The stacked means. -/
theorem stack_mean (r : Fin 512) (j : Fin 64) :
    stack bcat aa maskM selM (ftsM x0 x4) (adjM x1) 0 slices_S48x64_o0_0_S16x64 (ix2 r j)
    = Cert.Gad.mean fun s => feat x0 x1 x4 bcat aa r s j := by
  rw [stack_at (h48 := by omega),
    red_mean x0 x1 x4 bcat aa ⟨(r : ℕ) / 16, by omega⟩ ⟨(r : ℕ) % 16, by omega⟩ _ (by simp) j]
  congr 1; funext s; congr 1; exact Fin.ext (by simp only []; omega)

/-- The stacked last nodes. -/
theorem stack_last (r : Fin 512) (j : Fin 64) :
    stack bcat aa maskM selM (ftsM x0 x4) (adjM x1) 16 slices_S48x64_o16_0_S16x64 (ix2 r j)
    = feat x0 x1 x4 bcat aa r 7 j := by
  rw [stack_at (h48 := by omega),
    red_pick x0 x1 x4 bcat aa 16 7 (by omega) ⟨(r : ℕ) / 16, by omega⟩ ⟨(r : ℕ) % 16, by omega⟩ _ (by simp) j]
  congr 1; exact Fin.ext (by simp only []; omega)

/-- The stacked nodes before the last. -/
theorem stack_sixth (r : Fin 512) (j : Fin 64) :
    stack bcat aa maskM selM (ftsM x0 x4) (adjM x1) 32 slices_S48x64_o32_0_S16x64 (ix2 r j)
    = feat x0 x1 x4 bcat aa r 6 j := by
  rw [stack_at (h48 := by omega),
    red_pick x0 x1 x4 bcat aa 32 6 (by omega) ⟨(r : ℕ) / 16, by omega⟩ ⟨(r : ℕ) % 16, by omega⟩ _ (by simp) j]
  congr 1; exact Fin.ext (by simp only []; omega)

end Stacks

end Cert.KernelIdeal.Gad
end
-- ==== Proof.Tail.lean ====
module

public import proofs.«01_k».proof.Proof.Block

@[expose] public section
set_option maxRecDepth 16384
noncomputable section
open Idealize.ShloMosaic Idealize.ShloMosaic.TcCoe Idealize.SL.Sem
namespace Cert.KernelIdeal.Gad
open Cert.KernelIdeal Cert.KernelIdeal.Gen

/-!
The block's last part: the features of the row before the block, the row shift inside the block, and
the four discriminator columns.
-/

/-- The eight nodes of the row before the block, before the rectifier. -/
def prevPre (bcat : FVec Ideal S1x64 .f32) (ftsp : FVec Ideal S8x64 .f32) (x3 : FVec Ideal S1x8x8 .f32) :
    FVec Ideal S8x64 .f32 :=
  addf (matmul dot_S8x8_S8x64_S8x64_1_0_0_1_n_n none (shapeCast S8x8 x3 shapeCasts_S1x8x8_S8x8) ftsp
      (constant S8x64 .f32 0x00000000#32))
    (broadcastTo S8x64 bcat broadcasts_S1x64_S8x64)

/-- The eight nodes of the row before the block. -/
def prevH (bcat aa : FVec Ideal S1x64 .f32) (ftsp : FVec Ideal S8x64 .f32) (x3 : FVec Ideal S1x8x8 .f32) :
    FVec Ideal S8x64 .f32 :=
  select (cmpf .oge (prevPre bcat ftsp x3) (broadcast S8x64 (Scalar.ofBits .f32 0x00000000#32)))
    (prevPre bcat ftsp x3) (mulf (broadcastTo S8x64 aa broadcasts_S1x64_S8x64) (prevPre bcat ftsp x3))

/-- The selector of the row before the block: its first row averages, its second picks the seventh node. -/
def prevSel : FVec Ideal S2x8 .f32 :=
  addf (mulf (sitofp .f32 (extui 32 (andi
        (cmpi .eq (iota .tc S2x8 32 [0] iota_S2x8_d0_w32) (broadcast S2x8 0#32))
        (cmpi .sle (iota .tc S2x8 32 [1] iota_S2x8_d1_w32) (broadcast S2x8 6#32))) natLt_1_32))
      (broadcast S2x8 (Named.named κ "seventh" 0x3E124925#32)))
    (sitofp .f32 (extui 32 (andi
        (cmpi .eq (iota .tc S2x8 32 [0] iota_S2x8_d0_w32) (broadcast S2x8 1#32))
        (cmpi .eq (iota .tc S2x8 32 [1] iota_S2x8_d1_w32) (broadcast S2x8 6#32))) natLt_1_32))

/-- The two reductions of the row before the block. -/
def prevRed (hp : FVec Ideal S8x64 .f32) : FVec Ideal S2x64 .f32 :=
  matmul dot_S2x8_S8x64_S2x64_1_0_0_1_n_n none prevSel hp (constant S2x64 .f32 0x00000000#32)

/-- The row before the block: the mean in the lower 32 lanes, the seventh node in the upper 32. -/
def prevQ (hp : FVec Ideal S8x64 .f32) : FVec Ideal S1x64 .f32 :=
  select (k0_pay19) (extractStridedSlice S1x64 ![0, 0] (prevRed hp) slices_S2x64_o0_0_S1x64)
    (extractStridedSlice S1x64 ![1, 0] (prevRed hp) slices_S2x64_o1_0_S1x64)

/-- The block's rows moved down by one, the row before the block first. -/
def shifted (p : FVec Ideal S1x64 .f32) (q : FVec Ideal S512x64 .f32) : FVec Ideal S512x64 .f32 :=
  concatenate S512x64 0 [⟨S1x64, p⟩, ⟨S511x64, extractStridedSlice S511x64 ![0, 0] q slices_S512x64_o0_0_S511x64⟩]
    concatenates_S1x64_S511x64_S512x64_d0

/-- The last nodes against the discriminator weights. -/
def lastW (L : FVec Ideal S512x64 .f32) (x7 : FVec Ideal S64x64 .f32) : FVec Ideal S512x64 .f32 :=
  matmul dot_S512x64_S64x64_S512x64_1_0_0_1_n_n none L (shapeCast S64x64 x7 shapeCasts_S64x64_S64x64)
    (constant S512x64 .f32 0x00000000#32)

/-- The vector a discriminator compares the last node with: the mean in the lower 32 lanes, the
    seventh node in the upper 32. -/
def pairQ (C H : FVec Ideal S512x64 .f32) : FVec Ideal S512x64 .f32 :=
  select (broadcastTo S512x64 (shapeCast S1x64 k0_pay19 shapeCasts_S1x64_S1x64) broadcasts_S1x64_S512x64) C H

/-- The block's output, from the last nodes, the compared vectors and their shift. -/
def columns (u q0 q1 : FVec Ideal S512x64 .f32) : FVec Ideal S512x4 .f32 :=
  addf (matmul dot_S512x64_S64x4_S512x4_1_0_0_1_n_n none (mulf u q0) (k0_pay17 (F := Ideal)) (constant S512x4 .f32 0x00000000#32))
    (matmul dot_S512x64_S64x4_S512x4_1_0_0_1_n_n none (mulf u q1) (k0_pay18 (F := Ideal)) (constant S512x4 .f32 0x00000000#32))

/-- The block's last part is made of these pieces. -/
theorem tail_eq (v3 v5 : FVec Ideal S1x64 .f32) (L q0 : FVec Ideal S512x64 .f32) (ftsp : FVec Ideal S8x64 .f32)
    (x3 : FVec Ideal S1x8x8 .f32) (x7 : FVec Ideal S64x64 .f32) :
    k0_pay157 (F := Ideal) v3 v5 k0_pay17 k0_pay18 k0_pay19 L q0 ftsp x3 x7
    = columns (lastW L x7) q0 (shifted (prevQ (prevH v3 v5 ftsp x3)) q0) := rfl

/-- The selector of the row before the block, entry by entry. -/
theorem prevSel_at (p : Fin 2) (k : Fin 8) :
    prevSel (ix2 p k) = (if (p : ℕ) = 0 ∧ (k : ℕ) ≤ 6 then (1 : EReal) else 0) * ((1 / 7 : ℝ) : EReal)
      + (if (p : ℕ) = 1 ∧ (k : ℕ) = 6 then (1 : EReal) else 0) := by
  pointwise [prevSel]
  rw [seventh]
  congr 1
  · congr 1
    refine bit_to_float _ _ ?_
    revert p k
    decide +kernel
  · refine bit_to_float _ _ ?_
    revert p k
    decide +kernel

section At
variable (x2 : FVec Ideal S1x8x64 .f32) (x3 : FVec Ideal S1x8x8 .f32) (x4 : FVec Ideal S64x64 .f32)
  (bcat aa : FVec Ideal S1x64 .f32)

/-- Feature `j` of node `s` of the row before the block. -/
def prevFeat (s : Fin 8) (j : Fin 64) : EReal :=
  Cert.Gad.node (fun t => x3 (ix3 0 s t)) (fun t i => x2 (ix3 0 t i)) (fun i => x4 (ix2 i j))
    (bcat (ix2 0 j)) (aa (ix2 0 j))

/-- The row before the block before the rectifier, at an index. -/
theorem prevPre_at (s : Fin 8) (j : Fin 64) :
    prevPre bcat (k0_pay156 (F := Ideal) (k0_pay2 x4) x2) x3 (ix2 s j)
    = (∑ t : Fin 8, x3 (ix3 0 s t) * ∑ i : Fin 64, x2 (ix3 0 t i) * x4 (ix2 i j)) + bcat (ix2 0 j) := by
  pointwise [prevPre, k0_pay156, k0_pay2]

/-- The row before the block, at an index. -/
theorem prevH_at (s : Fin 8) (j : Fin 64) :
    prevH bcat aa (k0_pay156 (F := Ideal) (k0_pay2 x4) x2) x3 (ix2 s j) = prevFeat x2 x3 x4 bcat aa s j := by
  pointwise [prevH]
  rw [prevPre_at]
  rfl
end At

/-- Below lane 32 the row before the block holds the means over its first seven nodes. -/
theorem prevQ_low (hp : FVec Ideal S8x64 .f32) (j : Fin 64) (hj : (j : ℕ) < 32) :
    prevQ hp (ix2 0 j) = Cert.Gad.mean fun s => hp (ix2 s j) := by
  pointwise [prevQ, prevRed, lane_at, hj]
  rw [← Cert.Gad.sum_mean8]
  exact Finset.sum_congr rfl fun k _ => by rw [prevSel_at]; simp

/-- From lane 32 on it holds its seventh node. -/
theorem prevQ_high (hp : FVec Ideal S8x64 .f32) (j : Fin 64) (hj : ¬ (j : ℕ) < 32) :
    prevQ hp (ix2 0 j) = hp (ix2 6 j) := by
  pointwise [prevQ, prevRed, lane_at, hj]
  rw [Finset.sum_eq_single (6 : Fin 8)]
  · rw [prevSel_at]; simp
  · intro k _ hk
    have hk' : (k : ℕ) ≠ 6 := fun h => hk (Fin.ext h)
    rw [prevSel_at]; simp [hk']
  · intro h; exact absurd (Finset.mem_univ _) h

/-- The compared vector is the mean below lane 32 and the seventh node from there on. -/
theorem pairQ_at (C H : FVec Ideal S512x64 .f32) (r : Fin 512) (j : Fin 64) :
    pairQ C H (ix2 r j) = if (j : ℕ) < 32 then C (ix2 r j) else H (ix2 r j) := by
  pointwise [pairQ, lane_at]

/-- The shifted rows: the row before the block, then the block's rows but the last. -/
theorem shifted_at (p : FVec Ideal S1x64 .f32) (q : FVec Ideal S512x64 .f32) (r : Fin 512) (j : Fin 64) :
    shifted p q (ix2 r j) = if (r : ℕ) = 0 then p (ix2 0 j) else q (ix2 ⟨(r : ℕ) - 1, by omega⟩ j) := by
  pointwise [shifted]
  by_cases h : (r : ℕ) = 0
  · rw [dif_pos (by omega), if_pos h]
    congr 2
    exact Fin.ext h
  · rw [dif_neg (by omega), if_neg h]

/-- The last nodes against the discriminator weights, at an index. -/
theorem lastW_at (L : FVec Ideal S512x64 .f32) (x7 : FVec Ideal S64x64 .f32) (r : Fin 512) (j : Fin 64) :
    lastW L x7 (ix2 r j) = ∑ i : Fin 64, L (ix2 r i) * x7 (ix2 i j) := by
  pointwise [lastW]

/-- Each output column sums one half of the lanes of one of the two products. -/
theorem columns_at (u q0 q1 : FVec Ideal S512x64 .f32) (r : Fin 512) (c : Fin 4) :
    columns u q0 q1 (ix2 r c) =
    ((if (c : ℕ) = 0 then ∑ j : Fin 32, u (ix2 r ⟨j, by omega⟩) * q0 (ix2 r ⟨j, by omega⟩) else 0)
      + (if (c : ℕ) = 2 then ∑ j : Fin 32, u (ix2 r ⟨32 + j, by omega⟩) * q0 (ix2 r ⟨32 + j, by omega⟩) else 0))
    + ((if (c : ℕ) = 1 then ∑ j : Fin 32, u (ix2 r ⟨j, by omega⟩) * q1 (ix2 r ⟨j, by omega⟩) else 0)
      + (if (c : ℕ) = 3 then ∑ j : Fin 32, u (ix2 r ⟨32 + j, by omega⟩) * q1 (ix2 r ⟨32 + j, by omega⟩) else 0)) := by
  pointwise [columns]
  simp only [colEven_at, colOdd_at]
  rw [Cert.Gad.sum_column (fun j => u (ix2 r j) * q0 (ix2 r j)), Cert.Gad.sum_column (fun j => u (ix2 r j) * q1 (ix2 r j))]

/-! ### The two halves of the lanes -/

/-- Lane `j` of half `z`: the lower half belongs to the first graph convolution, the upper to the second. -/
def lane (z : Fin 2) (j : Fin 32) : Fin 64 := ⟨32 * (z : ℕ) + j, by omega⟩

/-- The vector the discriminator of half `z` compares the last node with: the mean over the first
    seven nodes in the lower half, the seventh node in the upper. -/
def compared (h : Fin 8 → Fin 64 → EReal) (z : Fin 2) (j : Fin 32) : EReal :=
  if (z : ℕ) = 0 then Cert.Gad.mean fun s => h s (lane z j) else h 6 (lane z j)

/-- Where the weights vanish between the halves, half `z` of the product reads half `z` alone. -/
theorem lastW_lane (L : FVec Ideal S512x64 .f32) (x7 : FVec Ideal S64x64 .f32)
    (hw : ∀ (z z' : Fin 2) (i j : Fin 32), z ≠ z' → x7 (ix2 (lane z i) (lane z' j)) = 0)
    (r : Fin 512) (z : Fin 2) (j : Fin 32) :
    lastW L x7 (ix2 r (lane z j)) = ∑ i : Fin 32, L (ix2 r (lane z i)) * x7 (ix2 (lane z i) (lane z j)) := by
  have e : ∀ f : Fin 64 → EReal, ∑ i, f i = (∑ i : Fin 32, f (lane 0 i)) + ∑ i : Fin 32, f (lane 1 i) := by
    intro f
    rw [Cert.Gad.sum_halves]
    refine congrArg₂ (· + ·) (Finset.sum_congr rfl fun i _ => congrArg f (Fin.ext ?_)) rfl
    show (i : ℕ) = 32 * 0 + i
    omega
  rw [lastW_at, e]
  have z0 : ∀ z' : Fin 2, z' ≠ z → ∑ i : Fin 32, L (ix2 r (lane z' i)) * x7 (ix2 (lane z' i) (lane z j)) = 0 :=
    fun z' h => Finset.sum_eq_zero fun i _ => by rw [hw z' z i j h, mul_zero]
  by_cases h : z = 0
  · subst h
    rw [z0 1 (by decide), add_zero]
  · obtain rfl : z = 1 := by omega
    rw [z0 0 (by decide), zero_add]

/-- Output column `2 z + k` sums half `z` of the product with the row's own vector (`k = 0`) or with
    the shifted one (`k = 1`). -/
theorem columns_lane (u q0 q1 : FVec Ideal S512x64 .f32) (r : Fin 512) (z k : Fin 2) :
    columns u q0 q1 (ix2 r ⟨2 * (z : ℕ) + k, by omega⟩)
    = ∑ j : Fin 32, u (ix2 r (lane z j)) * (if (k : ℕ) = 0 then q0 else q1) (ix2 r (lane z j)) := by
  rw [columns_at]
  have hl : ∀ j : Fin 32, (⟨(j : ℕ), by omega⟩ : Fin 64) = lane 0 j := fun j => Fin.ext (by
    show (j : ℕ) = 32 * 0 + j
    omega)
  have hh : ∀ j : Fin 32, (⟨32 + (j : ℕ), by omega⟩ : Fin 64) = lane 1 j := fun j => rfl
  simp only [hl, hh]
  obtain rfl | rfl : z = 0 ∨ z = 1 := by omega
  all_goals obtain rfl | rfl : k = 0 ∨ k = 1 := by omega
  all_goals simp

section Whole
variable (x0 : FVec Ideal S512x8x64 .f32) (x1 : FVec Ideal S512x8x8 .f32) (x2 : FVec Ideal S1x8x64 .f32)
  (x3 : FVec Ideal S1x8x8 .f32) (x4 : FVec Ideal S64x64 .f32) (x5 x6 : FVec Ideal S1x64 .f32)
  (x7 : FVec Ideal S64x64 .f32) (x8 : FVec Ideal S1x4 .f32)

/-- The features the discriminator of column kind `k` compares row `r`'s last node with: the row's
    own (`k = 0`), or those of the row before it (`k = 1`), which for the block's first row lie outside the block. -/
def against (r : Fin 512) (k : Fin 2) : Fin 8 → Fin 64 → EReal :=
  if (k : ℕ) = 0 then feat x0 x1 x4 x5 x6 r
  else if (r : ℕ) = 0 then prevFeat x2 x3 x4 x5 x6
  else feat x0 x1 x4 x5 x6 ⟨(r : ℕ) - 1, by omega⟩

/-- The compared vector of row `r`, lane by lane. -/
theorem pairQ_lane (r : Fin 512) (z : Fin 2) (j : Fin 32) :
    pairQ (stack x5 x6 maskM selM (ftsM x0 x4) (adjM x1) 0 slices_S48x64_o0_0_S16x64)
      (stack x5 x6 maskM selM (ftsM x0 x4) (adjM x1) 32 slices_S48x64_o32_0_S16x64) (ix2 r (lane z j))
    = compared (feat x0 x1 x4 x5 x6 r) z j := by
  rw [pairQ_at, stack_mean, stack_sixth, compared]
  have hz : ((lane z j : Fin 64) : ℕ) < 32 ↔ (z : ℕ) = 0 := by
    show 32 * (z : ℕ) + j < 32 ↔ _
    omega
  simp only [hz]

/-- The compared vector of the row before the block, lane by lane. -/
theorem prevQ_lane (z : Fin 2) (j : Fin 32) :
    prevQ (prevH x5 x6 (k0_pay156 (F := Ideal) (k0_pay2 x4) x2) x3) (ix2 0 (lane z j))
    = compared (prevFeat x2 x3 x4 x5 x6) z j := by
  have hz : ((lane z j : Fin 64) : ℕ) < 32 ↔ (z : ℕ) = 0 := by
    show 32 * (z : ℕ) + j < 32 ↔ _
    omega
  unfold compared
  by_cases h : (z : ℕ) = 0
  · rw [if_pos h, prevQ_low _ _ (hz.2 h)]
    congr 1; funext s; exact prevH_at x2 x3 x4 x5 x6 s _
  · rw [if_neg h, prevQ_high _ _ (fun h' => h (hz.1 h'))]
    exact prevH_at x2 x3 x4 x5 x6 6 _

/-- The three small operands are used as they are. -/
theorem whole_row (x : FVec Ideal S1x64 .f32) : k0_pay3 (F := Ideal) x = x ∧ k0_pay4 (F := Ideal) x = x := by
  constructor <;> exact shapeCast_self _ _

/-- The bias row is added to every row. -/
theorem biased_at (v : FVec Ideal S512x4 .f32) (r : Fin 512) (c : Fin 4) :
    k0_pay1 (F := Ideal) v (k0_pay158 x8) (ix2 r c) = v (ix2 r c) + x8 (ix2 0 c) := by
  pointwise [k0_pay1, k0_pay158]

/-- The discriminator of half `z` from the last nodes `L`, the compared vectors `q` and the row before the block `p`. -/
theorem score_at (hw : ∀ (z z' : Fin 2) (i j : Fin 32), z ≠ z' → x7 (ix2 (lane z i) (lane z' j)) = 0)
    (L q : FVec Ideal S512x64 .f32) (p : FVec Ideal S1x64 .f32) (r : Fin 512) (z k : Fin 2) :
    k0_pay1 (F := Ideal) (columns (lastW L x7) q (shifted p q)) (k0_pay158 x8) (ix2 r ⟨2 * (z : ℕ) + k, by omega⟩)
    = Cert.Gad.score (fun i => L (ix2 r (lane z i)))
        (fun j => if (k : ℕ) = 0 then q (ix2 r (lane z j))
          else if (r : ℕ) = 0 then p (ix2 0 (lane z j)) else q (ix2 ⟨(r : ℕ) - 1, by omega⟩ (lane z j)))
        (fun i j => x7 (ix2 (lane z i) (lane z j))) (x8 (ix2 0 ⟨2 * (z : ℕ) + k, by omega⟩)) := by
  rw [biased_at, columns_lane]
  unfold Cert.Gad.score
  congr 1
  refine Finset.sum_congr rfl fun j _ => ?_
  rw [lastW_lane _ _ hw]
  beta_reduce
  rw [← shifted_at]
  by_cases hk : (k : ℕ) = 0
  · rw [if_pos hk, if_pos hk]
  · rw [if_neg hk, if_neg hk]

/-- What one block computes: column `2 z + k` of row `r` is the discriminator of half `z`, on the
    row's last node and the vector compared with it. -/
theorem block_at (hw : ∀ (z z' : Fin 2) (i j : Fin 32), z ≠ z' → x7 (ix2 (lane z i) (lane z' j)) = 0)
    (r : Fin 512) (z k : Fin 2) :
    out0_9 (F := Ideal) x0 x1 x2 x3 x4 x5 x6 x7 x8 (ix2 r ⟨2 * (z : ℕ) + k, by omega⟩)
    = Cert.Gad.score (fun i => feat x0 x1 x4 x5 x6 r 7 (lane z i))
        (compared (against x0 x1 x2 x3 x4 x5 x6 r k) z)
        (fun i j => x7 (ix2 (lane z i) (lane z j))) (x8 (ix2 0 ⟨2 * (z : ℕ) + k, by omega⟩)) := by
  rw [out_eq, tail_eq, (whole_row x5).1, (whole_row x6).2]
  refine (score_at x7 x8 hw _ _ _ r z k).trans ?_
  refine congrArg₂ (fun L Q => Cert.Gad.score L Q (fun i j => x7 (ix2 (lane z i) (lane z j)))
    (x8 (ix2 0 ⟨2 * (z : ℕ) + k, by omega⟩))) (funext fun i => stack_last x0 x1 x4 x5 x6 r _) (funext fun j => ?_)
  unfold against
  by_cases hk : (k : ℕ) = 0
  · rw [if_pos hk, if_pos hk]
    exact pairQ_lane x0 x1 x4 x5 x6 r z j
  · rw [if_neg hk, if_neg hk]
    by_cases hr : (r : ℕ) = 0
    · rw [if_pos hr, if_pos hr]
      exact prevQ_lane x2 x3 x4 x5 x6 z j
    · rw [if_neg hr, if_neg hr]
      exact pairQ_lane x0 x1 x4 x5 x6 _ z j

end Whole

end Cert.KernelIdeal.Gad
end
-- ==== Proof.Operands.lean ====
module

public import proofs.«01_k».proof.Proof.Results
public import proofs.«01_k».proof.Proof.Tail
public import Idealize.ShloMosaic.Lib.Routing.OpsSet

@[expose] public section
set_option maxRecDepth 16384
noncomputable section
open Idealize.ShloMosaic Idealize.ShloMosaic.TcCoe Idealize.SL.Sem
namespace Cert.KernelIdeal.Gad
open Cert.KernelIdeal Cert.KernelIdeal.Gen

/-!
The operands the kernel's host code prepares before the grid: the joined weights, biases and slopes of
the two graph convolutions, the block-diagonal discriminator weights, and the four output biases.
-/

/-- The two weight matrices, one below the other, transposed. -/
def joinedW (a b : FVec Ideal S32x64 .f32) : FVec Ideal S64x64 .f32 :=
  transpose S64x64 [1, 0] (concatenate S64x64 0 [⟨S32x64, a⟩, ⟨S32x64, b⟩] concatenates_S32x64_S32x64_S64x64_d0)
    transposes_S64x64_S64x64_1_0

/-- The two bias vectors in one row. -/
def joinedB (a b : FVec Ideal S32 .f32) : FVec Ideal S1x64 .f32 :=
  broadcastInDim S1x64 ![1] bcast_S64_S1x64_1 (concatenate S64 0 [⟨S32, a⟩, ⟨S32, b⟩] concatenates_S32_S32_S64_d0)

/-- The two slopes, each repeated over its half of the row. -/
def joinedA (a b : FVec Ideal S1 .f32) : FVec Ideal S1x64 .f32 :=
  joinedB (broadcastInDim S32 ![0] bcast_S1_S32_0 a) (broadcastInDim S32 ![0] bcast_S1_S32_0 b)

/-- The row and column at which a weight matrix is written, both `k`. -/
def corner (k : BitVec 32) : IVec S2 32 :=
  concatenate S2 0 [⟨S1, broadcastInDim S1 ![] bcast_S_S1 (constantI S_ 32 k)⟩,
    ⟨S1, broadcastInDim S1 ![] bcast_S_S1 (constantI S_ 32 k)⟩] concatenates_S1_S1_S2_d0

/-- A 32 × 32 matrix written into a 64 × 64 one at row and column `k`. -/
def placed (x : FVec Ideal S64x64 .f32) (k : BitVec 32) (u : FVec Ideal S1x32x32 .f32) : FVec Ideal S64x64 .f32 :=
  Host.scatter scatter_S64x64_S2_S32x32_01_n_01_0 (fun _ b => b) x (corner k) (shapeCast S32x32 u shapeCasts_S1x32x32_S32x32)

/-- The two discriminator matrices on the diagonal of a zero matrix. -/
def diagonal (a b : FVec Ideal S1x32x32 .f32) : FVec Ideal S64x64 .f32 :=
  placed (placed (broadcastInDim S64x64 ![] bcast_S_S64x64 (constant S_ .f32 0x00000000#32)) 0#32 a) 32#32 b

/-- One bias as a vector of length one. -/
def single (a : FVec Ideal S1 .f32) : FVec Ideal S1 .f32 :=
  broadcastInDim S1 ![] bcast_S_S1 (shapeCast S_ a shapeCasts_S1_S_)

/-- The two biases, each twice, in one row. -/
def joinedD (a b : FVec Ideal S1 .f32) : FVec Ideal S1x4 .f32 :=
  broadcastInDim S1x4 ![1] bcast_S4_S1x4_1 (concatenate S4 0 [⟨S1, single a⟩, ⟨S1, single a⟩, ⟨S1, single b⟩, ⟨S1, single b⟩]
    concatenates_S1_S1_S1_S1_S4_d0)

section Entry
variable (m : (ℓ : Loc nD τ sig) → Buf (Elt Ideal) ℓ) (c : Dev nD)

/-- The first matrix operand is the joined weights. -/
theorem V_weights : V m c main_v1 = joinedW (m ((c : Thread nD τ).loc main_arg2)) (m ((c : Thread nD τ).loc main_arg5)) := by
  simp only [V, V0, hostOps0, List.flatten_cons, List.flatten_nil, List.append_nil]
  after_results_simp
  rfl

/-- The bias operand is the joined biases. -/
theorem V_bias : V m c main_v3 = joinedB (m ((c : Thread nD τ).loc main_arg3)) (m ((c : Thread nD τ).loc main_arg6)) := by
  simp only [V, V0, hostOps0, List.flatten_cons, List.flatten_nil, List.append_nil]
  after_results_simp
  rfl

/-- The slope operand is the joined slopes. -/
theorem V_slope : V m c main_v7 = joinedA (m ((c : Thread nD τ).loc main_arg4)) (m ((c : Thread nD τ).loc main_arg7)) := by
  simp only [V, V0, hostOps0, List.flatten_cons, List.flatten_nil, List.append_nil]
  after_results_simp
  rfl

/-- The discriminator operand is the block-diagonal weights. -/
theorem V_dweights : V m c main_v18 = diagonal (m ((c : Thread nD τ).loc main_arg8)) (m ((c : Thread nD τ).loc main_arg10)) := by
  simp only [V, V0, hostOps0, List.flatten_cons, List.flatten_nil, List.append_nil]
  after_results_simp
  rfl

/-- The output bias operand is the joined output biases. -/
theorem V_dbias : V m c main_v28 = joinedD (m ((c : Thread nD τ).loc main_arg9)) (m ((c : Thread nD τ).loc main_arg11)) := by
  simp only [V, V0, hostOps0, List.flatten_cons, List.flatten_nil, List.append_nil]
  after_results_simp
  rfl

end Entry

/-! ### The operands at an index: half `z` of a joined operand belongs to the first convolution for
`z = 0`, to the second for `z = 1` -/

/-- A lane lies below 32 exactly in half 0. -/
theorem lane_lt (z : Fin 2) (j : Fin 32) : ((lane z j : Fin 64) : ℕ) < 32 ↔ (z : ℕ) = 0 := by
  show 32 * (z : ℕ) + j < 32 ↔ _
  omega

/-- Reading one of two arrays at a lane, split at lane 32: half `z` reads its own array at `j`. -/
theorem lane_split {β : Type} (f g : Fin 32 → β) (z : Fin 2) (j : Fin 32) :
    (if h : ((lane z j : Fin 64) : ℕ) < 32 then f ⟨lane z j, h⟩ else g ⟨(lane z j : Fin 64) - 32, by omega⟩)
    = (if (z : ℕ) = 0 then f else g) j := by
  have hl : ((lane z j : Fin 64) : ℕ) = 32 * (z : ℕ) + j := rfl
  by_cases h : (z : ℕ) = 0
  · rw [dif_pos ((lane_lt z j).2 h), if_pos h]
    exact congrArg f (Fin.ext (by simp only [hl]; omega))
  · rw [dif_neg fun h' => h ((lane_lt z j).1 h'), if_neg h]
    exact congrArg g (Fin.ext (by simp only [hl]; omega))

/-- Column `lane z j` of the joined weights is row `j` of the half's weights. -/
theorem joinedW_lane (a b : FVec Ideal S32x64 .f32) (i : Fin 64) (z : Fin 2) (j : Fin 32) :
    joinedW a b (ix2 i (lane z j)) = (if (z : ℕ) = 0 then a else b) (ix2 j i) := by
  pointwise [joinedW]
  refine (lane_split (fun j => a (ix2 j i)) (fun j => b (ix2 j i)) z j).trans ?_
  split <;> rfl

/-- Entry `lane z j` of the joined biases is entry `j` of the half's biases. -/
theorem joinedB_lane (a b : FVec Ideal S32 .f32) (z : Fin 2) (j : Fin 32) :
    joinedB a b (ix2 0 (lane z j)) = (if (z : ℕ) = 0 then a else b) (ix1 j) := by
  pointwise [joinedB]
  refine (lane_split (fun j => a (ix1 j)) (fun j => b (ix1 j)) z j).trans ?_
  split <;> rfl

/-- Entry `lane z j` of the joined slopes is the half's slope. -/
theorem joinedA_lane (a b : FVec Ideal S1 .f32) (z : Fin 2) (j : Fin 32) :
    joinedA a b (ix2 0 (lane z j)) = (if (z : ℕ) = 0 then a else b) (ix1 0) := by
  pointwise [joinedA, joinedB]
  refine (lane_split (fun _ => a (ix1 0)) (fun _ => b (ix1 0)) z j).trans ?_
  split <;> rfl

/-- Entries `2 z` and `2 z + 1` of the joined output biases are the half's bias. -/
theorem joinedD_lane (a b : FVec Ideal S1 .f32) (z k : Fin 2) :
    joinedD a b (ix2 0 ⟨2 * (z : ℕ) + k, by omega⟩) = (if (z : ℕ) = 0 then a else b) (ix1 0) := by
  pointwise [joinedD, single]
  obtain rfl | rfl : z = 0 ∨ z = 1 := by omega
  all_goals obtain rfl | rfl : k = 0 ∨ k = 1 := by omega
  all_goals simp

/-- Both entries of a corner are `k`. -/
theorem corner_at (k : BitVec 32) (i : S2.Idx) : corner k i = k := by
  obtain ⟨q, rfl⟩ : ∃ q : Fin 2, i = ix1 q := ⟨i 0, by funext a; fin_cases a; rfl⟩
  pointwise [corner]
  exact ite_self _

/-- A matrix written at `k` starts at row `k` and column `k`. -/
theorem start_at (k : BitVec 32) (i : S32x32.Idx) (q : Fin 2) :
    scatter_S64x64_S2_S32x32_01_n_01_0.start i (corner k) q = k.toInt := by
  unfold ScatterDims.start
  simp only [corner_at]
  fin_cases q <;> rfl

/-- Entry `(a, b)` of the written matrix lands at `(k + a, k + b)`. -/
theorem lands_at (k : BitVec 32) (a b : Fin 32) (r c : Fin 64) :
    scatter_S64x64_S2_S32x32_01_n_01_0.resultIdx? (ix2 a b) (corner k) = some (ix2 r c)
    ↔ k.toInt + (a : ℕ) = (r : ℕ) ∧ k.toInt + (b : ℕ) = (c : ℕ) := by
  refine (Routing.resultIdx?_ix2 _ _ _ r c).trans ?_
  rw [start_at, start_at]
  rfl

/-- A matrix written into half `p` replaces the entries with row and column there, and no other. -/
theorem placed_lane (x : FVec Ideal S64x64 .f32) (k : BitVec 32) (p : Fin 2) (hk : k.toInt = 32 * (p : ℕ))
    (u : FVec Ideal S1x32x32 .f32) (z z' : Fin 2) (i j : Fin 32) :
    placed x k u (ix2 (lane z i) (lane z' j))
    = if z = p ∧ z' = p then u (ix3 0 i j) else x (ix2 (lane z i) (lane z' j)) := by
  have hu : ∀ a b : Fin 32, shapeCast S32x32 u shapeCasts_S1x32x32_S32x32 (ix2 a b) = u (ix3 0 a b) := by
    intro a b
    pointwise
  have hl : ∀ (z : Fin 2) (i : Fin 32), ((lane z i : Fin 64) : ℕ) = 32 * (z : ℕ) + i := fun _ _ => rfl
  have ix : ∀ q : S32x32.Idx, ∃ a b : Fin 32, q = ix2 a b := fun q =>
    ⟨q 0, q 1, by funext d; fin_cases d <;> rfl⟩
  unfold placed
  by_cases h : z = p ∧ z' = p
  · obtain ⟨rfl, rfl⟩ := h
    rw [if_pos ⟨rfl, rfl⟩]
    refine Routing.scatter_set_hit _ _ _ _ _ _ (fun q hq => ?_) (ix2 i j) ((lands_at k i j _ _).2 ?_)
    · obtain ⟨a, b, rfl⟩ := ix q
      obtain ⟨h1, h2⟩ := (lands_at k a b _ _).1 hq
      rw [hl] at h1 h2
      rw [hu, show a = i from Fin.ext (by omega), show b = j from Fin.ext (by omega)]
    · rw [hl, hl]
      constructor <;> omega
  · rw [if_neg h]
    refine Routing.scatter_set_miss _ _ _ _ _ fun q hq => h ?_
    obtain ⟨a, b, rfl⟩ := ix q
    obtain ⟨h1, h2⟩ := (lands_at k a b _ _).1 hq
    rw [hl] at h1 h2
    exact ⟨Fin.ext (by omega), Fin.ext (by omega)⟩

/-- The block-diagonal weights: each half's own matrix within the half, zero between the halves. -/
theorem diagonal_lane (a b : FVec Ideal S1x32x32 .f32) (z z' : Fin 2) (i j : Fin 32) :
    diagonal a b (ix2 (lane z i) (lane z' j))
    = if z = z' then (if (z : ℕ) = 0 then a else b) (ix3 0 i j) else 0 := by
  unfold diagonal
  rw [placed_lane _ _ 1 (by decide), placed_lane _ _ 0 (by decide)]
  have h0 : (broadcastInDim S64x64 ![] bcast_S_S64x64 (constant (F := Ideal) S_ .f32 0x00000000#32)) (ix2 (lane z i) (lane z' j)) = (0 : EReal) := by
    pointwise
  rw [h0]
  obtain rfl | rfl : z = 0 ∨ z = 1 := by omega
  all_goals obtain rfl | rfl : z' = 0 ∨ z' = 1 := by omega
  all_goals simp

end Cert.KernelIdeal.Gad
end
-- ==== Proof.Rowwise.lean ====
module

public import proofs.«01_k».proof.Proof.Sums

@[expose] public section
noncomputable section
open Idealize.ShloMosaic
namespace Cert.Gad

/-!
The problem's values row by row: the node features of one row of the batch, the row a shifted
comparison reads, and the score of one row.  Both programs are shown to compute these.
-/

/-- Feature `j` of node `s` of row `n` under a graph convolution with weights `W`, bias `b` and slope `a`. -/
def feature (X : FVec Ideal ⟨3, ![32768, 8, 64]⟩ .f32) (A : FVec Ideal ⟨3, ![32768, 8, 8]⟩ .f32)
    (W : FVec Ideal ⟨2, ![32, 64]⟩ .f32) (b : FVec Ideal ⟨1, ![32]⟩ .f32) (a : FVec Ideal ⟨1, ![1]⟩ .f32)
    (n : Fin 32768) (s : Fin 8) (j : Fin 32) : EReal :=
  node (fun t => A (ix3 n s t)) (fun t i => X (ix3 n t i)) (fun i => W (ix2 j i)) (b (ix1 j)) (a (ix1 0))

/-- The row a shifted comparison reads in place of row `n`: the one before, and row 32766 for the first. -/
def before (n : Fin 32768) : Fin 32768 := if h : (n : ℕ) = 0 then 32766 else ⟨n - 1, by omega⟩

/-- The row comparison `k` reads: `n` itself for `k = 0`, the shifted row for `k = 1`. -/
def rowOf (k : Fin 2) (n : Fin 32768) : Fin 32768 := if (k : ℕ) = 0 then n else before n

/-- The second comparison reads the shifted row. -/
theorem rowOf_one (n : Fin 32768) : rowOf 1 n = before n := if_neg (by decide)

/-- The first comparison reads the row itself. -/
theorem rowOf_zero (n : Fin 32768) : rowOf 0 n = n := if_pos rfl

/-- What a discriminator compares the last node with: the mean of the first seven nodes (`z = 0`) or
the seventh node (`z = 1`). -/
def chosen (z : Fin 2) (h : Fin 8 → Fin 32 → EReal) (j : Fin 32) : EReal :=
  if (z : ℕ) = 0 then mean fun s => h s j else h 6 j

/-- The score of row `n` in discriminator `z`, comparison `k`. -/
def rowScore (z k : Fin 2) (X : FVec Ideal ⟨3, ![32768, 8, 64]⟩ .f32) (A : FVec Ideal ⟨3, ![32768, 8, 8]⟩ .f32)
    (W : FVec Ideal ⟨2, ![32, 64]⟩ .f32) (b : FVec Ideal ⟨1, ![32]⟩ .f32) (a : FVec Ideal ⟨1, ![1]⟩ .f32)
    (D : FVec Ideal ⟨3, ![1, 32, 32]⟩ .f32) (d : FVec Ideal ⟨1, ![1]⟩ .f32) (n : Fin 32768) : EReal :=
  score (fun i => feature X A W b a n 7 i) (chosen z (feature X A W b a (rowOf k n)))
    (fun i j => D (ix3 0 i j)) (d (ix1 0))

end Cert.Gad
end
-- ==== Proof.Grid.lean ====
module

public import proofs.«01_k».proof.Proof.Operands
public import proofs.«01_k».proof.Proof.Rowwise

@[expose] public section
set_option maxRecDepth 16384
noncomputable section
open Idealize.ShloMosaic Idealize.ShloMosaic.TcCoe Idealize.SL.Sem
namespace Cert.KernelIdeal.Gad
open Cert.KernelIdeal Cert.KernelIdeal.Gen

/-!
What the grid leaves in its output array: every grid point reads its own 512 rows and the single row
before them, so that entry `(n, 2 z + k)` is the score of row `n` in discriminator `z`, comparison `k`.
-/

/-- Which block every window reads or writes at a grid point. -/
theorem idx : ∀ t : Fin cfg0.N, win0_0.index t = ![t.val, 0, 0] ∧ win0_1.index t = ![t.val, 0, 0]
    ∧ win0_2.index t = ![if t.val = 0 then 32766 else 512 * t.val - 1, 0, 0]
    ∧ win0_3.index t = ![if t.val = 0 then 32766 else 512 * t.val - 1, 0, 0]
    ∧ win0_4.index t = ![0, 0] ∧ win0_5.index t = ![0, 0] ∧ win0_6.index t = ![0, 0] ∧ win0_7.index t = ![0, 0]
    ∧ win0_8.index t = ![0, 0] ∧ win0_9.index t = ![t.val, 0] ∧ t.val < 64 :=
  (by decide +kernel : ∀ t : Fin grid0.N, _)

/-- Row `r` of block `t` in the whole batch. -/
def rowAt (t : Fin cfg0.N) (r : Fin 512) : Fin 32768 := ⟨512 * t.val + r, by have := (idx t).2.2.2.2.2.2.2.2.2.2; omega⟩

variable (m : (ℓ : Loc nD τ sig) → Buf (Elt Ideal) ℓ) (c : Dev nD) (t : Fin cfg0.N)

/-- The block of inputs. -/
theorem read0 (r : Fin 512) (s : Fin 8) (i : Fin 64) :
    iblk m c 0 t (ix3 r s i) = m ((c : Thread nD τ).loc main_arg0) (ix3 (rowAt t r) s i) := by
  blk_ext [iblk, V, idx t, rowAt]

/-- The block of adjacencies. -/
theorem read1 (r : Fin 512) (s t' : Fin 8) :
    iblk m c 1 t (ix3 r s t') = m ((c : Thread nD τ).loc main_arg1) (ix3 (rowAt t r) s t') := by
  blk_ext [iblk, V, idx t, rowAt]

/-- The single-row windows read the row before the block's first row (row 32766 for the first block). -/
theorem before_first : (if t.val = 0 then 32766 else 512 * t.val - 1) = (Cert.Gad.before (rowAt t 0) : ℕ) := by
  unfold Cert.Gad.before
  have h : ((rowAt t 0 : Fin 32768) : ℕ) = 512 * t.val := rfl
  by_cases h0 : t.val = 0
  · rw [if_pos h0, dif_pos (by omega)]; rfl
  · rw [if_neg h0, dif_neg (by omega)]; exact congrArg (· - 1) h.symm

/-- The single row of inputs before the block. -/
theorem read2 (s : Fin 8) (i : Fin 64) :
    iblk m c 2 t (ix3 0 s i) = m ((c : Thread nD τ).loc main_arg0) (ix3 (Cert.Gad.before (rowAt t 0)) s i) := by
  blk_ext [iblk, V, idx t]
  exact before_first t

/-- The single row of adjacencies before the block. -/
theorem read3 (s t' : Fin 8) :
    iblk m c 3 t (ix3 0 s t') = m ((c : Thread nD τ).loc main_arg1) (ix3 (Cert.Gad.before (rowAt t 0)) s t') := by
  blk_ext [iblk, V, idx t]
  exact before_first t

/-- The joined weights. -/
theorem read4 (i : Fin 64) (z : Fin 2) (j : Fin 32) : iblk m c 4 t (ix2 i (lane z j))
    = (if (z : ℕ) = 0 then (m ((c : Thread nD τ).loc main_arg2) : FVec Ideal S32x64 .f32) else m ((c : Thread nD τ).loc main_arg5)) (ix2 j i) := by
  refine Eq.trans ?_ (joinedW_lane (m ((c : Thread nD τ).loc main_arg2)) (m ((c : Thread nD τ).loc main_arg5)) i z j)
  rw [← V_weights]
  blk_ext [iblk, idx t]

/-- The joined biases. -/
theorem read5 (z : Fin 2) (j : Fin 32) : iblk m c 5 t (ix2 0 (lane z j))
    = (if (z : ℕ) = 0 then (m ((c : Thread nD τ).loc main_arg3) : FVec Ideal S32 .f32) else m ((c : Thread nD τ).loc main_arg6)) (ix1 j) := by
  refine Eq.trans ?_ (joinedB_lane (m ((c : Thread nD τ).loc main_arg3)) (m ((c : Thread nD τ).loc main_arg6)) z j)
  rw [← V_bias]
  blk_ext [iblk, idx t]

/-- The joined slopes. -/
theorem read6 (z : Fin 2) (j : Fin 32) : iblk m c 6 t (ix2 0 (lane z j))
    = (if (z : ℕ) = 0 then (m ((c : Thread nD τ).loc main_arg4) : FVec Ideal S1 .f32) else m ((c : Thread nD τ).loc main_arg7)) (ix1 0) := by
  refine Eq.trans ?_ (joinedA_lane (m ((c : Thread nD τ).loc main_arg4)) (m ((c : Thread nD τ).loc main_arg7)) z j)
  rw [← V_slope]
  blk_ext [iblk, idx t]

/-- The block-diagonal discriminator weights. -/
theorem read7 (z z' : Fin 2) (i j : Fin 32) : iblk m c 7 t (ix2 (lane z i) (lane z' j))
    = if z = z' then (if (z : ℕ) = 0 then (m ((c : Thread nD τ).loc main_arg8) : FVec Ideal S1x32x32 .f32) else m ((c : Thread nD τ).loc main_arg10)) (ix3 0 i j) else (0 : EReal) := by
  refine Eq.trans ?_ (diagonal_lane (m ((c : Thread nD τ).loc main_arg8)) (m ((c : Thread nD τ).loc main_arg10)) z z' i j)
  rw [← V_dweights]
  blk_ext [iblk, idx t]

/-- The output biases. -/
theorem read8 (z k : Fin 2) : iblk m c 8 t (ix2 0 ⟨2 * (z : ℕ) + k, by omega⟩)
    = (if (z : ℕ) = 0 then (m ((c : Thread nD τ).loc main_arg9) : FVec Ideal S1 .f32) else m ((c : Thread nD τ).loc main_arg11)) (ix1 0) := by
  refine Eq.trans ?_ (joinedD_lane (m ((c : Thread nD τ).loc main_arg9)) (m ((c : Thread nD τ).loc main_arg11)) z k)
  rw [← V_dbias]
  blk_ext [iblk, idx t]

/-- The features of row `n` under half `z`'s graph convolution, over the kernel's arguments. -/
def featureOf (z : Fin 2) (n : Fin 32768) (s : Fin 8) (j : Fin 32) : EReal :=
  Cert.Gad.feature (m ((c : Thread nD τ).loc main_arg0)) (m ((c : Thread nD τ).loc main_arg1))
    (if (z : ℕ) = 0 then m ((c : Thread nD τ).loc main_arg2) else m ((c : Thread nD τ).loc main_arg5))
    (if (z : ℕ) = 0 then m ((c : Thread nD τ).loc main_arg3) else m ((c : Thread nD τ).loc main_arg6))
    (if (z : ℕ) = 0 then m ((c : Thread nD τ).loc main_arg4) else m ((c : Thread nD τ).loc main_arg7)) n s j

/-- The block's features are the batch's. -/
theorem feat_block (r : Fin 512) (s : Fin 8) (z : Fin 2) (j : Fin 32) :
    feat (iblk m c 0 t) (iblk m c 1 t) (iblk m c 4 t) (iblk m c 5 t) (iblk m c 6 t) r s (lane z j)
    = featureOf m c z (rowAt t r) s j := by
  unfold feat featureOf Cert.Gad.feature
  exact congr (congr (congr (congrArg₂ Cert.Gad.node (funext fun t' => read1 m c t r s t')
    (funext fun t' => funext fun i => read0 m c t r t' i)) (funext fun i => read4 m c t i z j)) (read5 m c t z j)) (read6 m c t z j)

/-- The features of the single row before the block. -/
theorem feat_before (s : Fin 8) (z : Fin 2) (j : Fin 32) :
    prevFeat (iblk m c 2 t) (iblk m c 3 t) (iblk m c 4 t) (iblk m c 5 t) (iblk m c 6 t) s (lane z j)
    = featureOf m c z (Cert.Gad.before (rowAt t 0)) s j := by
  unfold prevFeat featureOf Cert.Gad.feature
  exact congr (congr (congr (congrArg₂ Cert.Gad.node (funext fun t' => read3 m c t s t')
    (funext fun t' => funext fun i => read2 m c t t' i)) (funext fun i => read4 m c t i z j)) (read5 m c t z j)) (read6 m c t z j)

/-- Inside a block the row before row `r` is row `r - 1`. -/
theorem before_inner (r : Fin 512) (h : (r : ℕ) ≠ 0) :
    Cert.Gad.before (rowAt t r) = rowAt t ⟨(r : ℕ) - 1, by omega⟩ := by
  have hv : ((rowAt t r : Fin 32768) : ℕ) = 512 * t.val + r := rfl
  unfold Cert.Gad.before
  rw [dif_neg (by omega)]
  refine Fin.ext ?_
  show ((rowAt t r : Fin 32768) : ℕ) - 1 = 512 * t.val + ((r : ℕ) - 1)
  omega

/-- What a block compares with, over the batch: the row itself or the shifted row. -/
theorem against_block (r : Fin 512) (k : Fin 2) (s : Fin 8) (z : Fin 2) (j : Fin 32) :
    against (iblk m c 0 t) (iblk m c 1 t) (iblk m c 2 t) (iblk m c 3 t) (iblk m c 4 t) (iblk m c 5 t) (iblk m c 6 t)
      r k s (lane z j)
    = featureOf m c z (Cert.Gad.rowOf k (rowAt t r)) s j := by
  unfold against Cert.Gad.rowOf
  by_cases hk : (k : ℕ) = 0
  · rw [if_pos hk, if_pos hk]
    exact feat_block m c t r s z j
  · rw [if_neg hk, if_neg hk]
    by_cases hr : (r : ℕ) = 0
    · rw [if_pos hr]
      obtain rfl : r = 0 := Fin.ext hr
      exact feat_before m c t s z j
    · rw [if_neg hr, before_inner t r hr]
      exact feat_block m c t _ s z j

/-- The score of row `n` in discriminator `z`, comparison `k`, over the kernel's arguments. -/
def scoreOf (z k : Fin 2) (n : Fin 32768) : EReal :=
  Cert.Gad.rowScore z k (m ((c : Thread nD τ).loc main_arg0)) (m ((c : Thread nD τ).loc main_arg1))
    (if (z : ℕ) = 0 then m ((c : Thread nD τ).loc main_arg2) else m ((c : Thread nD τ).loc main_arg5))
    (if (z : ℕ) = 0 then m ((c : Thread nD τ).loc main_arg3) else m ((c : Thread nD τ).loc main_arg6))
    (if (z : ℕ) = 0 then m ((c : Thread nD τ).loc main_arg4) else m ((c : Thread nD τ).loc main_arg7))
    (if (z : ℕ) = 0 then m ((c : Thread nD τ).loc main_arg8) else m ((c : Thread nD τ).loc main_arg10))
    (if (z : ℕ) = 0 then m ((c : Thread nD τ).loc main_arg9) else m ((c : Thread nD τ).loc main_arg11)) n

/-- One grid point: entry `(r, 2 z + k)` of its block is the score of the block's row `r`. -/
theorem point (r : Fin 512) (z k : Fin 2) :
    out0_9 (F := Ideal) (iblk m c 0 t) (iblk m c 1 t) (iblk m c 2 t) (iblk m c 3 t) (iblk m c 4 t) (iblk m c 5 t)
      (iblk m c 6 t) (iblk m c 7 t) (iblk m c 8 t) (ix2 r ⟨2 * (z : ℕ) + k, by omega⟩)
    = scoreOf m c z k (rowAt t r) := by
  refine (block_at _ _ _ _ _ _ _ _ _ (fun z z' i j h => (read7 m c t z z' i j).trans (if_neg h)) r z k).trans ?_
  unfold scoreOf Cert.Gad.rowScore
  refine congr (congr (congrArg₂ Cert.Gad.score (funext fun i => feat_block m c t r 7 z i) (funext fun j => ?_))
    (funext fun i => funext fun j => (read7 m c t z z i j).trans (if_pos rfl))) (read8 m c t z k)
  unfold compared Cert.Gad.chosen
  exact congrArg₂ (fun x y : EReal => if (z : ℕ) = 0 then x else y)
    (congrArg Cert.Gad.mean (funext fun s => against_block m c t r k s z j)) (against_block m c t r k 6 z j)

/-- Which discriminator a column belongs to. -/
def colZ (q : Fin 4) : Fin 2 := ⟨(q : ℕ) / 2, by omega⟩
/-- Which comparison a column holds. -/
def colK (q : Fin 4) : Fin 2 := ⟨(q : ℕ) % 2, by omega⟩

/-- The grid's output array: every row's four scores. -/
theorem filled_eq : filled m c = fun i : S32768x4.Idx => scoreOf m c (colZ (i 1)) (colK (i 1)) (i 0) := by
  unfold filled
  refine (dats m 0 c).arrAt_eq_of_covers 9 _ (by decide +kernel) fun t _ y => ?_
  blk_simp
  rw [after0_9]
  obtain ⟨r, q, rfl⟩ : ∃ (r : Fin 512) (q : Fin 4), y = ix2 r q := ⟨y 0, y 1, by funext d; fin_cases d <;> rfl⟩
  have he : (win0_9.blk t).view.emb (ix2 r q) = (ix2 (rowAt t r) q : S32768x4.Idx) := by
    blk_ext [idx t, rowAt]
  rw [he]
  have hq : q = ⟨2 * (colZ q : ℕ) + colK q, by omega⟩ := Fin.ext (by
    show (q : ℕ) = 2 * ((q : ℕ) / 2) + (q : ℕ) % 2
    omega)
  refine Eq.trans (congrArg (fun q' : Fin 4 => out0_9 (F := Ideal) _ _ _ _ _ _ _ _ _ (ix2 r q')) hq) ?_
  exact point m c t r (colZ q) (colK q)

end Cert.KernelIdeal.Gad
end
-- ==== Proof.Reference.lean ====
module

public import proofs.«01_k».proof.Proof.Gen.ReferenceIdeal.Run
public import proofs.«01_k».proof.Proof.Rows
public import proofs.«01_k».proof.Proof.Rowwise
public import Idealize.ShloMosaic.Lib.Pointwise

@[expose] public section
set_option maxRecDepth 16384
noncomputable section
open Idealize.ShloMosaic Idealize.ShloMosaic.TcCoe Idealize.SL.Sem
namespace Cert.ReferenceIdeal.Gad
open Cert.ReferenceIdeal Cert.ReferenceIdeal.Gen

/-!
What the reference computes: its two results written over its arguments, then read at a row.
-/

section Pieces
variable (X : FVec Ideal S32768x8x64 .f32) (A : FVec Ideal S32768x8x8 .f32) (W : FVec Ideal S32x64 .f32)
  (b : FVec Ideal S32 .f32) (a : FVec Ideal S1 .f32)

/-- A graph convolution before its rectifier. -/
def pre : FVec Ideal S32768x8x32 .f32 :=
  addf (Host.dotGeneral dot_S32768x8x8_S32768x8x32_S32768x8x32_2_1_1_2_0_0 none A
      (Host.dotGeneral dot_S32768x8x64_S32x64_S32768x8x32_2_1_01_0_n_n none X W))
    (broadcastInDim S32768x8x32 ![0, 1, 2] bcast_S1x1x32_S32768x8x32_0_1_2 (broadcastInDim S1x1x32 ![2] bcast_S32_S1x1x32_2 b))

/-- The rectifier with a slope for negative values. -/
def rectified (p : FVec Ideal S32768x8x32 .f32) : FVec Ideal S32768x8x32 .f32 :=
  select (cmpf .oge p (broadcastInDim S32768x8x32 ![] bcast_S_S32768x8x32 (constant S_ .f32 0x00000000#32))) p
    (mulf (broadcastInDim S32768x8x32 ![] bcast_S_S32768x8x32 (shapeCast _ a shapeCasts_S1_S_)) p)

/-- The mean of the first seven nodes. -/
def meanNode (h : FVec Ideal S32768x8x32 .f32) : FVec Ideal S32768x32 .f32 :=
  Host.divf (Host.reduceAdd (extractStridedSlice S32768x7x32 ![0, 0, 0] h slices_S32768x8x32_S32768x7x32_0_0_0)
      (constant S_ .f32 0x00000000#32) reducesTo_S32768x7x32_S32768x32_d1 h_S_)
    (broadcastInDim S32768x32 ![] bcast_S_S32768x32 (constant S_ .f32 0x40E00000#32))

/-- The last node. -/
def lastNode (h : FVec Ideal S32768x8x32 .f32) : FVec Ideal S32768x32 .f32 :=
  shapeCast _ (extractStridedSlice S32768x1x32 ![0, 7, 0] h slices_S32768x8x32_S32768x1x32_0_7_0) shapeCasts_S32768x1x32_S32768x32

/-- The seventh node. -/
def sixthNode (h : FVec Ideal S32768x8x32 .f32) : FVec Ideal S32768x32 .f32 :=
  shapeCast _ (extractStridedSlice S32768x1x32 ![0, 6, 0] h slices_S32768x8x32_S32768x1x32_0_6_0) shapeCasts_S32768x1x32_S32768x32

/-- The rows moved down by one, row 32766 first. -/
def shifted (q : FVec Ideal S32768x32 .f32) : FVec Ideal S32768x32 .f32 :=
  concatenate S32768x32 0 [⟨S1x32, extractStridedSlice S1x32 ![32766, 0] q slices_S32768x32_S1x32_32766_0⟩,
    ⟨S32767x32, extractStridedSlice S32767x32 ![0, 0] q slices_S32768x32_S32767x32_0_0⟩] concatenates_S1x32_S32767x32_S32768x32_d0

variable (D : FVec Ideal S1x32x32 .f32) (d : FVec Ideal S1 .f32)

/-- A bilinear discriminator on every row. -/
def bilinear (L q : FVec Ideal S32768x32 .f32) : FVec Ideal S32768x1 .f32 :=
  addf (Host.dotGeneral dot_S32768x32_S1x32x32768_S32768x1_1_1_n_0_0_2 none q
      (Host.dotGeneral dot_S1x32x32_S32768x32_S1x32x32768_1_1_02_0_n_n none D L))
    (broadcastInDim S32768x1 ![0, 1] bcast_S1x1_S32768x1_0_1 (broadcastInDim S1x1 ![1] bcast_S1_S1x1_1 d))

/-- The unshifted scores above the shifted ones. -/
def both (L q : FVec Ideal S32768x32 .f32) : FVec Ideal S65536x1 .f32 :=
  concatenate S65536x1 0 [⟨S32768x1, bilinear D d L q⟩, ⟨S32768x1, bilinear D d L (shifted q)⟩]
    concatenates_S32768x1_S32768x1_S65536x1_d0

end Pieces

variable (m : (ℓ : Loc nD τ sig) → Buf (Elt Ideal) ℓ) (c : Dev nD)

/-- The rectified graph convolution of the first result. -/
def firstH : FVec Ideal S32768x8x32 .f32 :=
  rectified (m ((c : Thread nD τ).loc main_arg4)) (pre (m ((c : Thread nD τ).loc main_arg0)) (m ((c : Thread nD τ).loc main_arg1))
    (m ((c : Thread nD τ).loc main_arg2)) (m ((c : Thread nD τ).loc main_arg3)))

/-- The rectified graph convolution of the second result. -/
def secondH : FVec Ideal S32768x8x32 .f32 :=
  rectified (m ((c : Thread nD τ).loc main_arg7)) (pre (m ((c : Thread nD τ).loc main_arg0)) (m ((c : Thread nD τ).loc main_arg1))
    (m ((c : Thread nD τ).loc main_arg5)) (m ((c : Thread nD τ).loc main_arg6)))

/-- The first result over the arguments. -/
theorem first_eq : Value.res_main_v45 m c = both (m ((c : Thread nD τ).loc main_arg8)) (m ((c : Thread nD τ).loc main_arg9))
    (lastNode (firstH m c)) (meanNode (firstH m c)) := rfl

/-- The second result over the arguments. -/
theorem second_eq : Value.res_main_v59 m c = both (m ((c : Thread nD τ).loc main_arg10)) (m ((c : Thread nD τ).loc main_arg11))
    (lastNode (secondH m c)) (sixthNode (secondH m c)) := rfl

section Reads
variable (X : FVec Ideal S32768x8x64 .f32) (A : FVec Ideal S32768x8x8 .f32) (W : FVec Ideal S32x64 .f32)
  (b : FVec Ideal S32 .f32) (a : FVec Ideal S1 .f32)

/-- The rectified graph convolution at an index is the row's node feature. -/
theorem feature_at (n : Fin 32768) (s : Fin 8) (j : Fin 32) :
    rectified a (pre X A W b) (ix3 n s j) = Cert.Gad.feature X A W b a n s j := by
  have hp : pre X A W b (ix3 n s j) = (∑ t : Fin 8, A (ix3 n s t) * ∑ i : Fin 64, X (ix3 n t i) * W (ix2 j i)) + b (ix1 j) := by
    pointwise [pre]
  pointwise [rectified]
  rw [hp]
  rfl

/-- The mean of the first seven nodes, at an index. -/
theorem mean_at (h : FVec Ideal S32768x8x32 .f32) (n : Fin 32768) (j : Fin 32) :
    meanNode h (ix2 n j) = Cert.Gad.mean fun s => h (ix3 n s j) := by
  have h7 : Ideal.ofBits .f32 1088421888#32 = ((7 : ℝ) : EReal) := by
    simp [Ideal.ofBits, Ideal.ieee, -EReal.coe_mul]
    norm_num
  pointwise [meanNode]
  rw [h7]
  exact Cert.Gad.mean_eq_div fun s => h (ix3 n s j)

/-- The last node, at an index. -/
theorem last_at (h : FVec Ideal S32768x8x32 .f32) (n : Fin 32768) (j : Fin 32) :
    lastNode h (ix2 n j) = h (ix3 n 7 j) := by
  pointwise [lastNode]

/-- The seventh node, at an index. -/
theorem sixth_at (h : FVec Ideal S32768x8x32 .f32) (n : Fin 32768) (j : Fin 32) :
    sixthNode h (ix2 n j) = h (ix3 n 6 j) := by
  pointwise [sixthNode]

/-- The shifted rows, at an index: row `n` reads the row before it. -/
theorem shifted_at (q : FVec Ideal S32768x32 .f32) (n : Fin 32768) (j : Fin 32) :
    shifted q (ix2 n j) = q (ix2 (Cert.Gad.before n) j) := by
  have h0 : ∀ r : Fin 1, extractStridedSlice S1x32 ![32766, 0] q slices_S32768x32_S1x32_32766_0 (ix2 r j)
      = q (ix2 32766 j) := by
    intro r
    pointwise
  have h1 : ∀ r : Fin 32767, extractStridedSlice S32767x32 ![0, 0] q slices_S32768x32_S32767x32_0_0 (ix2 r j)
      = q (ix2 ⟨r, by omega⟩ j) := by
    intro r
    pointwise
  unfold shifted Cert.Gad.before
  refine (Cert.Gad.rows_at (n₁ := 1) (n₂ := 32767) _ _ _ rfl n j).trans ?_
  by_cases hn : (n : ℕ) = 0
  · rw [dif_pos (by omega), dif_pos hn]
    exact h0 _
  · rw [dif_neg (by omega), dif_neg hn]
    exact h1 _

/-- A discriminator's score of row `n`. -/
theorem bilinear_at (D : FVec Ideal S1x32x32 .f32) (d : FVec Ideal S1 .f32) (L q : FVec Ideal S32768x32 .f32) (n : Fin 32768) :
    bilinear D d L q (ix2 n 0) = Cert.Gad.score (fun i => L (ix2 n i)) (fun j => q (ix2 n j)) (fun i j => D (ix3 0 i j)) (d (ix1 0)) := by
  pointwise [bilinear, Cert.Gad.score]
  refine congrArg (· + d (ix1 0)) (Finset.sum_congr rfl fun j _ => (mul_comm _ _).trans ?_)
  exact congrArg (· * q (ix2 n j)) (Finset.sum_congr rfl fun i _ => mul_comm _ _)

/-- Row `n` of a result: the unshifted score of row `n`, then the shifted score of row `n - 32768`. -/
theorem both_at (D : FVec Ideal S1x32x32 .f32) (d : FVec Ideal S1 .f32) (L q : FVec Ideal S32768x32 .f32) (n : Fin 65536) :
    both D d L q (ix2 n 0) = if h : (n : ℕ) < 32768 then bilinear D d L q (ix2 ⟨n, h⟩ 0)
      else bilinear D d L (shifted q) (ix2 ⟨(n : ℕ) - 32768, by omega⟩ 0) := by
  unfold both
  exact Cert.Gad.rows_at (n₁ := 32768) (n₂ := 32768) _ _ _ rfl n 0

/-- One discriminator's scores over a graph convolution: what it compares with is given at an index. -/
theorem score_at (z : Fin 2) (D : FVec Ideal S1x32x32 .f32) (d : FVec Ideal S1 .f32) (q : FVec Ideal S32768x32 .f32)
    (hq : ∀ n j, q (ix2 n j) = Cert.Gad.chosen z (Cert.Gad.feature X A W b a n) j) (n : Fin 65536) :
    both D d (lastNode (rectified a (pre X A W b))) q (ix2 n 0)
    = if h : (n : ℕ) < 32768 then Cert.Gad.rowScore z 0 X A W b a D d ⟨n, h⟩
      else Cert.Gad.rowScore z 1 X A W b a D d ⟨(n : ℕ) - 32768, by omega⟩ := by
  have hL : ∀ n i, lastNode (rectified a (pre X A W b)) (ix2 n i) = Cert.Gad.feature X A W b a n 7 i := fun n i =>
    (last_at _ n i).trans (feature_at X A W b a n 7 i)
  refine (both_at D d _ q n).trans ?_
  by_cases h : (n : ℕ) < 32768
  · rw [dif_pos h, dif_pos h]
    refine (bilinear_at D d _ q _).trans ?_
    unfold Cert.Gad.rowScore
    rw [Cert.Gad.rowOf_zero]
    exact congrArg₂ (fun u v => Cert.Gad.score u v (fun i j => D (ix3 0 i j)) (d (ix1 0))) (funext fun i => hL _ i)
      (funext fun j => hq _ j)
  · rw [dif_neg h, dif_neg h]
    refine (bilinear_at D d _ _ _).trans ?_
    unfold Cert.Gad.rowScore
    rw [Cert.Gad.rowOf_one]
    exact congrArg₂ (fun u v => Cert.Gad.score u v (fun i j => D (ix3 0 i j)) (d (ix1 0))) (funext fun i => hL _ i)
      (funext fun j => (shifted_at q _ j).trans (hq _ j))

/-- The mean of the first seven nodes is what the first discriminator compares with. -/
theorem mean_chosen (n : Fin 32768) (j : Fin 32) :
    meanNode (rectified a (pre X A W b)) (ix2 n j) = Cert.Gad.chosen 0 (Cert.Gad.feature X A W b a n) j :=
  (mean_at _ n j).trans (congrArg Cert.Gad.mean (funext fun s => feature_at X A W b a n s j))

/-- The seventh node is what the second discriminator compares with. -/
theorem sixth_chosen (n : Fin 32768) (j : Fin 32) :
    sixthNode (rectified a (pre X A W b)) (ix2 n j) = Cert.Gad.chosen 1 (Cert.Gad.feature X A W b a n) j :=
  (sixth_at _ n j).trans (feature_at X A W b a n 6 j)

end Reads
end Cert.ReferenceIdeal.Gad
end
-- ==== Proof.Equation.lean ====
module

public import proofs.«01_k».proof.Proof.Grid
public import proofs.«01_k».proof.Proof.Reference

@[expose] public section
set_option maxRecDepth 16384
noncomputable section
open Idealize.ShloMosaic Idealize.ShloMosaic.TcCoe Idealize.SL.Sem

/-!
The two results of the kernel are the two results of the reference.
-/

namespace Cert.KernelIdeal.Gad
open Cert.KernelIdeal Cert.KernelIdeal.Gen
variable (m : (ℓ : Loc nD τ sig) → Buf (Elt Ideal) ℓ) (c : Dev nD)

/-- Entry `(n, 2 z + k)` of the grid's output. -/
theorem filled_at (n : Fin 32768) (q : Fin 4) (z k : Fin 2) (hz : colZ q = z) (hk : colK q = k) :
    filled m c (ix2 n q) = scoreOf m c z k n := by
  subst hz hk
  exact congrFun (filled_eq m c) (ix2 n q)

/-- Row `n` of the kernel's first result. -/
theorem first_at (n : Fin 65536) :
    stacked (filled m c) 0 1 slices_S32768x4_S32768x1_0_0 slices_S32768x4_S32768x1_0_1 (ix2 n 0)
    = if h : (n : ℕ) < 32768 then scoreOf m c 0 0 ⟨n, h⟩ else scoreOf m c 0 1 ⟨(n : ℕ) - 32768, by omega⟩ := by
  refine (stacked_at _ 0 1 _ _ (by decide) (by decide) n).trans ?_
  by_cases h : (n : ℕ) < 32768
  · rw [dif_pos h, dif_pos h]
    exact filled_at m c _ _ 0 0 (by decide) (by decide)
  · rw [dif_neg h, dif_neg h]
    exact filled_at m c _ _ 0 1 (by decide) (by decide)

/-- Row `n` of the kernel's second result. -/
theorem second_at (n : Fin 65536) :
    stacked (filled m c) 2 3 slices_S32768x4_S32768x1_0_2 slices_S32768x4_S32768x1_0_3 (ix2 n 0)
    = if h : (n : ℕ) < 32768 then scoreOf m c 1 0 ⟨n, h⟩ else scoreOf m c 1 1 ⟨(n : ℕ) - 32768, by omega⟩ := by
  refine (stacked_at _ 2 3 _ _ (by decide) (by decide) n).trans ?_
  by_cases h : (n : ℕ) < 32768
  · rw [dif_pos h, dif_pos h]
    exact filled_at m c _ _ 1 0 (by decide) (by decide)
  · rw [dif_neg h, dif_neg h]
    exact filled_at m c _ _ 1 1 (by decide) (by decide)

/-- The first discriminator's score, its operands named. -/
theorem scoreOf_zero (k : Fin 2) (n : Fin 32768) : scoreOf m c 0 k n
    = Cert.Gad.rowScore 0 k (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg8)) (m ((c : Thread nD τ).loc main_arg9)) n := by
  unfold scoreOf
  simp only [if_pos (show ((0 : Fin 2) : ℕ) = 0 from rfl)]

/-- The second discriminator's score, its operands named. -/
theorem scoreOf_one (k : Fin 2) (n : Fin 32768) : scoreOf m c 1 k n
    = Cert.Gad.rowScore 1 k (m ((c : Thread nD τ).loc main_arg0)) (m ((c : Thread nD τ).loc main_arg1))
      (m ((c : Thread nD τ).loc main_arg5)) (m ((c : Thread nD τ).loc main_arg6)) (m ((c : Thread nD τ).loc main_arg7))
      (m ((c : Thread nD τ).loc main_arg10)) (m ((c : Thread nD τ).loc main_arg11)) n := by
  unfold scoreOf
  simp only [if_neg (show ¬ ((1 : Fin 2) : ℕ) = 0 by decide)]

end Cert.KernelIdeal.Gad

namespace Cert.Gad

/-- An array of one column is known by its rows. -/
theorem column_ext {x y : (⟨2, ![65536, 1]⟩ : Shape).Idx → EReal} (h : ∀ n : Fin 65536, x (ix2 n 0) = y (ix2 n 0)) : x = y := by
  funext i
  obtain ⟨n, q, rfl⟩ : ∃ (n : Fin 65536) (q : Fin 1), i = ix2 n q := ⟨i 0, i 1, by funext d; fin_cases d <;> rfl⟩
  obtain rfl : q = 0 := Subsingleton.elim _ _
  exact h n

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- On the same arguments the first results are equal. -/
theorem first_equal
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.KernelIdeal.Gad.stacked (Cert.KernelIdeal.Gad.filled m c) 0 1
      Cert.KernelIdeal.Gen.slices_S32768x4_S32768x1_0_0 Cert.KernelIdeal.Gen.slices_S32768x4_S32768x1_0_1
    = Cert.ReferenceIdeal.Value.res_main_v45 m' c := by
  refine column_ext fun n => (Cert.KernelIdeal.Gad.first_at m c n).trans ?_
  rw [Cert.ReferenceIdeal.Gad.first_eq]
  unfold Cert.ReferenceIdeal.Gad.firstH
  simp only [Cert.KernelIdeal.Gad.scoreOf_zero, ← h0, ← h1, ← h2, ← h3, ← h4, ← h8, ← h9]
  exact (Cert.ReferenceIdeal.Gad.score_at _ _ _ _ _ 0 _ _ _ (Cert.ReferenceIdeal.Gad.mean_chosen _ _ _ _ _) n).symm

/-- On the same arguments the second results are equal. -/
theorem second_equal
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Gad.stacked (Cert.KernelIdeal.Gad.filled m c) 2 3
      Cert.KernelIdeal.Gen.slices_S32768x4_S32768x1_0_2 Cert.KernelIdeal.Gen.slices_S32768x4_S32768x1_0_3
    = Cert.ReferenceIdeal.Value.res_main_v59 m' c := by
  refine column_ext fun n => (Cert.KernelIdeal.Gad.second_at m c n).trans ?_
  rw [Cert.ReferenceIdeal.Gad.second_eq]
  unfold Cert.ReferenceIdeal.Gad.secondH
  simp only [Cert.KernelIdeal.Gad.scoreOf_one, ← h0, ← h1, ← h5, ← h6, ← h7, ← h10, ← h11]
  exact (Cert.ReferenceIdeal.Gad.score_at _ _ _ _ _ 1 _ _ _ (Cert.ReferenceIdeal.Gad.sixth_chosen _ _ _ _ _) n).symm

end Cert.Gad
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends on every input, leaves its arguments unchanged and every semaphore at zero. -/
theorem frame_kernel : Cert.quiescent_Kernel (hKernel := Cert.Kernel.Gen.facts) :=
  fun m ρ _ => Cert.Kernel.Gen.frame m ρ

/-- So does the idealized kernel. -/
theorem frame_ideal : Cert.quiescent_KernelIdeal (hKernelIdeal := Cert.KernelIdeal.Gen.facts) :=
  fun m ρ _ => Cert.KernelIdeal.Gen.frame m ρ

/-- So does the reference. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The one constant the idealized kernel names is the reading of its word. -/
theorem named : Cert.preserves_Kernel_KernelIdeal :=
  IdealRules.named_const.statement Cert.KernelIdeal.κ "seventh" .f32 0x3E124925#32 ((1 / 7 : ℝ) : EReal) rfl

/-- On the same arguments both results of the kernel are those of the reference. -/
theorem equal : Cert.algebraic_KernelIdeal_ReferenceIdeal (hKernelIdeal := Cert.KernelIdeal.Gen.facts)
    (hReferenceIdeal := Cert.ReferenceIdeal.Gen.facts) := by
  intro m g m' g' _ hm
  refine ⟨fun c => Cert.ReferenceIdeal.Value.res_main_v45 m' c, fun c => Cert.ReferenceIdeal.Value.res_main_v59 m' c, ?_,
    Cert.ReferenceIdeal.Value.run (F := Ideal) m' g'⟩
  refine (θ_run _ _ _).mono (fun r h c => ?_)
    (θ_run_and (Cert.KernelIdeal.Gad.run_results m g) (Cert.KernelIdeal.Gen.unchanged m g))
  obtain ⟨h0, h1, h2, h3, h4, h5, h6, h7, h8, h9, h10, h11⟩ := hm c
  exact ⟨(h.1 c).1.trans (Cert.Gad.first_equal m m' c h0 h1 h2 h3 h4 h8 h9),
    (h.1 c).2.trans (Cert.Gad.second_equal m m' c h0 h1 h5 h6 h7 h10 h11), h.2 c⟩

/-- Everything claimed. -/
theorem claim : Cert.Claim :=
  ⟨Cert.Kernel.Gen.facts, Cert.KernelIdeal.Gen.facts, Cert.ReferenceIdeal.Gen.facts,
    frame_kernel, frame_ideal, frame_reference, named, equal⟩

end Cert.Proof

end
